-- ==== Defs.lean ====
def Pre_Kernel (m : (ℓ : Loc Cert.Kernel.nD Cert.Kernel.τ Cert.Kernel.sig) → Buf (Elt Bits) ℓ) : Prop :=
  True

def Pre_KernelIdeal [hPre_x_above_neg_inf : Cert.Pre_x_above_neg_inf.Facts] (m : (ℓ : Loc Cert.KernelIdeal.nD Cert.KernelIdeal.τ Cert.KernelIdeal.sig) → Buf (Elt Ideal) ℓ) : Prop :=
  ∀ c : Dev Cert.KernelIdeal.nD,
    (Cert.Pre_x_above_neg_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_x_above_neg_inf [hPre_x_above_neg_inf : Cert.Pre_x_above_neg_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_above_neg_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_x_above_neg_inf : Cert.Pre_x_above_neg_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_x_above_neg_inf [hReferenceIdeal : Cert.ReferenceIdeal.Facts] [hPre_x_above_neg_inf : Cert.Pre_x_above_neg_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_above_neg_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_x_above_neg_inf : Cert.Pre_x_above_neg_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_x_above_neg_inf : Cert.Pre_x_above_neg_inf.Facts),
    quiescent_Kernel (hKernel := hKernel)
    ∧ quiescent_KernelIdeal (hKernelIdeal := hKernelIdeal) (hPre_x_above_neg_inf := hPre_x_above_neg_inf)
    ∧ quiescent_KernelIdeal_pre_none (hKernelIdeal := hKernelIdeal)
    ∧ quiescent_ReferenceIdeal (hReferenceIdeal := hReferenceIdeal)
    ∧ quiescent_ReferenceIdeal_pre_x_above_neg_inf (hReferenceIdeal := hReferenceIdeal) (hPre_x_above_neg_inf := hPre_x_above_neg_inf)
    ∧ preserves_Kernel_KernelIdeal
    ∧ algebraic_KernelIdeal_ReferenceIdeal (hKernelIdeal := hKernelIdeal) (hReferenceIdeal := hReferenceIdeal) (hPre_x_above_neg_inf := hPre_x_above_neg_inf)
-- ==== Pre_x_above_neg_inf.lean ====
abbrev S4x100000x128 : Shape := ⟨3, ![4, 100000, 128]⟩
abbrev S384x64 : Shape := ⟨2, ![384, 64]⟩
abbrev S192x64 : Shape := ⟨2, ![192, 64]⟩
abbrev S192x128 : Shape := ⟨2, ![192, 128]⟩
abbrev S399000 : Shape := ⟨1, ![399000]⟩
abbrev S_ : Shape := ⟨0, ![]⟩

class Facts : Prop where
  bcast_S_S4x100000x128 : S_.BroadcastsInDim S4x100000x128 (![] : Fin 0 → Fin S4x100000x128.rank)

variable [Facts]

def fn {F : FTy → Type} [FloatOps F] (main_arg0 : FVec F S4x100000x128 .f32) (main_arg1 : FVec F S384x64 .f32) (main_arg2 : FVec F S192x64 .f32) (main_arg3 : FVec F S192x64 .f32) (main_arg4 : FVec F S192x64 .f32) (main_arg5 : FVec F S192x128 .f32) (main_arg6 : IVec S399000 32) (main_arg7 : IVec S399000 32) (main_arg8 : FVec F S399000 .f32) : IVec S4x100000x128 1 :=
  let main_cst : FVec F S_ .f32 := constant S_ .f32 0xFF800000#32
  let main_v0 : FVec F S4x100000x128 .f32 := broadcastInDim S4x100000x128 ![] bcast_S_S4x100000x128 main_cst
  let main_v1 : IVec S4x100000x128 1 := cmpf .ogt main_arg0 main_v0
  main_v1
-- ==== Kernel.lean ====
abbrev S4x100000x128 : Shape := ⟨3, ![4, 100000, 128]⟩
abbrev S384x64 : Shape := ⟨2, ![384, 64]⟩
abbrev S192x64 : Shape := ⟨2, ![192, 64]⟩
abbrev S192x128 : Shape := ⟨2, ![192, 128]⟩
abbrev S399000 : Shape := ⟨1, ![399000]⟩
abbrev S4x200x500x128 : Shape := ⟨4, ![4, 200, 500, 128]⟩
abbrev S4x200x500x64 : Shape := ⟨4, ![4, 200, 500, 64]⟩
abbrev S4x2x500x128 : Shape := ⟨4, ![4, 2, 500, 128]⟩
abbrev S4x10x500x128 : Shape := ⟨4, ![4, 10, 500, 128]⟩
abbrev S4x10x500x64 : Shape := ⟨4, ![4, 10, 500, 64]⟩
abbrev S4x14x500x128 : Shape := ⟨4, ![4, 14, 500, 128]⟩
abbrev S1x12 : Shape := ⟨2, ![1, 12]⟩
abbrev S12 : Shape := ⟨1, ![12]⟩
abbrev S4x12x500x128 : Shape := ⟨4, ![4, 12, 500, 128]⟩
abbrev S4x12x1x128 : Shape := ⟨4, ![4, 12, 1, 128]⟩
abbrev S4x12x499x128 : Shape := ⟨4, ![4, 12, 499, 128]⟩
abbrev S1x12x1x1 : Shape := ⟨4, ![1, 12, 1, 1]⟩
abbrev S1x10 : Shape := ⟨2, ![1, 10]⟩
abbrev S10 : Shape := ⟨1, ![10]⟩
abbrev S4x10x1x128 : Shape := ⟨4, ![4, 10, 1, 128]⟩
abbrev S4x10x499x128 : Shape := ⟨4, ![4, 10, 499, 128]⟩
abbrev S1x10x1x1 : Shape := ⟨4, ![1, 10, 1, 1]⟩
abbrev S128x64 : Shape := ⟨2, ![128, 64]⟩
abbrev S20000x128 : Shape := ⟨2, ![20000, 128]⟩
abbrev S20000x64 : Shape := ⟨2, ![20000, 64]⟩
abbrev S4x2x500x64 : Shape := ⟨4, ![4, 2, 500, 64]⟩
abbrev S4x14x500x64 : Shape := ⟨4, ![4, 14, 500, 64]⟩
abbrev S4x12x500x64 : Shape := ⟨4, ![4, 12, 500, 64]⟩
abbrev S4x12x1x64 : Shape := ⟨4, ![4, 12, 1, 64]⟩
abbrev S4x12x499x64 : Shape := ⟨4, ![4, 12, 499, 64]⟩
abbrev S4x10x1x64 : Shape := ⟨4, ![4, 10, 1, 64]⟩
abbrev S4x10x499x64 : Shape := ⟨4, ![4, 10, 499, 64]⟩
abbrev S64x64 : Shape := ⟨2, ![64, 64]⟩
abbrev S64x128 : Shape := ⟨2, ![64, 128]⟩

abbrev nBuf : Space → Nat
  | .hbm => 21
  | .vmem => 45
  | .smem => 0
  | _ => 0

abbrev bufTy : (tb : Table) → Fin (tcTables nBuf tb) → BufTy
  | .hbm, ⟨0, _⟩ => ⟨S4x100000x128, .f32⟩
  | .hbm, ⟨1, _⟩ => ⟨S384x64, .f32⟩
  | .hbm, ⟨2, _⟩ => ⟨S192x64, .f32⟩
  | .hbm, ⟨3, _⟩ => ⟨S192x64, .f32⟩
  | .hbm, ⟨4, _⟩ => ⟨S192x64, .f32⟩
  | .hbm, ⟨5, _⟩ => ⟨S192x128, .f32⟩
  | .hbm, ⟨6, _⟩ => ⟨S399000, .i32⟩
  | .hbm, ⟨7, _⟩ => ⟨S399000, .i32⟩
  | .hbm, ⟨8, _⟩ => ⟨S399000, .f32⟩
  | .hbm, ⟨9, _⟩ => ⟨S4x200x500x128, .f32⟩
  | .hbm, ⟨10, _⟩ => ⟨S384x64, .bf16⟩
  | .hbm, ⟨11, _⟩ => ⟨S4x200x500x64, .bf16⟩
  | .hbm, ⟨12, _⟩ => ⟨S192x64, .bf16⟩
  | .hbm, ⟨13, _⟩ => ⟨S4x200x500x64, .bf16⟩
  | .hbm, ⟨14, _⟩ => ⟨S192x64, .bf16⟩
  | .hbm, ⟨15, _⟩ => ⟨S4x200x500x64, .bf16⟩
  | .hbm, ⟨16, _⟩ => ⟨S192x64, .bf16⟩
  | .hbm, ⟨17, _⟩ => ⟨S4x200x500x64, .bf16⟩
  | .hbm, ⟨18, _⟩ => ⟨S192x128, .bf16⟩
  | .hbm, ⟨19, _⟩ => ⟨S4x200x500x128, .f32⟩
  | .hbm, ⟨20, _⟩ => ⟨S4x100000x128, .f32⟩
  | .local _ .vmem, ⟨0, _⟩ => ⟨S4x2x500x128, .f32⟩
  | .local _ .vmem, ⟨1, _⟩ => ⟨S4x2x500x128, .f32⟩
  | .local _ .vmem, ⟨2, _⟩ => ⟨S4x10x500x128, .f32⟩
  | .local _ .vmem, ⟨3, _⟩ => ⟨S4x10x500x128, .f32⟩
  | .local _ .vmem, ⟨4, _⟩ => ⟨S4x2x500x128, .f32⟩
  | .local _ .vmem, ⟨5, _⟩ => ⟨S4x2x500x128, .f32⟩
  | .local _ .vmem, ⟨6, _⟩ => ⟨S384x64, .bf16⟩
  | .local _ .vmem, ⟨7, _⟩ => ⟨S4x10x500x64, .bf16⟩
  | .local _ .vmem, ⟨8, _⟩ => ⟨S4x10x500x64, .bf16⟩
  | .local _ .vmem, ⟨9, _⟩ => ⟨S4x2x500x64, .bf16⟩
  | .local _ .vmem, ⟨10, _⟩ => ⟨S4x2x500x64, .bf16⟩
  | .local _ .vmem, ⟨11, _⟩ => ⟨S4x10x500x64, .bf16⟩
  | .local _ .vmem, ⟨12, _⟩ => ⟨S4x10x500x64, .bf16⟩
  | .local _ .vmem, ⟨13, _⟩ => ⟨S4x2x500x64, .bf16⟩
  | .local _ .vmem, ⟨14, _⟩ => ⟨S4x2x500x64, .bf16⟩
  | .local _ .vmem, ⟨15, _⟩ => ⟨S192x64, .bf16⟩
  | .local _ .vmem, ⟨16, _⟩ => ⟨S4x10x500x64, .bf16⟩
  | .local _ .vmem, ⟨17, _⟩ => ⟨S4x10x500x64, .bf16⟩
  | .local _ .vmem, ⟨18, _⟩ => ⟨S4x2x500x64, .bf16⟩
  | .local _ .vmem, ⟨19, _⟩ => ⟨S4x2x500x64, .bf16⟩
  | .local _ .vmem, ⟨20, _⟩ => ⟨S4x10x500x64, .bf16⟩
  | .local _ .vmem, ⟨21, _⟩ => ⟨S4x10x500x64, .bf16⟩
  | .local _ .vmem, ⟨22, _⟩ => ⟨S4x2x500x64, .bf16⟩
  | .local _ .vmem, ⟨23, _⟩ => ⟨S4x2x500x64, .bf16⟩
  | .local _ .vmem, ⟨24, _⟩ => ⟨S192x64, .bf16⟩
  | .local _ .vmem, ⟨25, _⟩ => ⟨S4x10x500x64, .bf16⟩
  | .local _ .vmem, ⟨26, _⟩ => ⟨S4x10x500x64, .bf16⟩
  | .local _ .vmem, ⟨27, _⟩ => ⟨S4x2x500x64, .bf16⟩
  | .local _ .vmem, ⟨28, _⟩ => ⟨S4x2x500x64, .bf16⟩
  | .local _ .vmem, ⟨29, _⟩ => ⟨S4x10x500x64, .bf16⟩
  | .local _ .vmem, ⟨30, _⟩ => ⟨S4x10x500x64, .bf16⟩
  | .local _ .vmem, ⟨31, _⟩ => ⟨S4x2x500x64, .bf16⟩
  | .local _ .vmem, ⟨32, _⟩ => ⟨S4x2x500x64, .bf16⟩
  | .local _ .vmem, ⟨33, _⟩ => ⟨S192x64, .bf16⟩
  | .local _ .vmem, ⟨34, _⟩ => ⟨S4x10x500x64, .bf16⟩
  | .local _ .vmem, ⟨35, _⟩ => ⟨S4x10x500x64, .bf16⟩
  | .local _ .vmem, ⟨36, _⟩ => ⟨S4x2x500x64, .bf16⟩
  | .local _ .vmem, ⟨37, _⟩ => ⟨S4x2x500x64, .bf16⟩
  | .local _ .vmem, ⟨38, _⟩ => ⟨S4x10x500x64, .bf16⟩
  | .local _ .vmem, ⟨39, _⟩ => ⟨S4x10x500x64, .bf16⟩
  | .local _ .vmem, ⟨40, _⟩ => ⟨S4x2x500x64, .bf16⟩
  | .local _ .vmem, ⟨41, _⟩ => ⟨S4x2x500x64, .bf16⟩
  | .local _ .vmem, ⟨42, _⟩ => ⟨S192x128, .bf16⟩
  | .local _ .vmem, ⟨43, _⟩ => ⟨S4x10x500x128, .f32⟩
  | .local _ .vmem, ⟨44, _⟩ => ⟨S4x10x500x128, .f32⟩
  | _, _ => ⟨S4x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem4_1 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 4 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c5_i32 : BitVec 32 := 5#32
  let v0 : BitVec 32 := Scalar.muli arg0 c5_i32
  let c5_i32_0 : BitVec 32 := 5#32
  let v1 : BitVec 32 := Scalar.addi v0 c5_i32_0
  let c99_i32 : BitVec 32 := 99#32
  let v2 : BitVec 32 := Scalar.minsi v1 c99_i32
  let c0_i32 : BitVec 32 := 0#32
  let c0_i32_1 : BitVec 32 := 0#32
  let c0_i32_2 : BitVec 32 := 0#32
  let c0_i32_3 : BitVec 32 := 0#32
  ![c0_i32.toNat, v2.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x2x500x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x10x500x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x500x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x10x500x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 4 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c5_i32 : BitVec 32 := 5#32
  let v0 : BitVec 32 := Scalar.muli arg0 c5_i32
  let c5_i32_0 : BitVec 32 := 5#32
  let v1 : BitVec 32 := Scalar.addi v0 c5_i32_0
  let c99_i32 : BitVec 32 := 99#32
  let v2 : BitVec 32 := Scalar.minsi v1 c99_i32
  let c0_i32 : BitVec 32 := 0#32
  let c0_i32_1 : BitVec 32 := 0#32
  let c0_i32_2 : BitVec 32 := 0#32
  let c0_i32_3 : BitVec 32 := 0#32
  ![c0_i32.toNat, v2.toNat, c0_i32_1.toNat, c0_i32_2.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S4x2x500x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x10x500x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x2x500x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S192x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x10x500x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 4 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_2 (i : grid2.Coords) : Fin 4 → Nat :=
  let arg0 : BitVec 32 := BitVec.ofNat 32 (i 0).val
  let c5_i32 : BitVec 32 := 5#32
  let v0 : BitVec 32 := Scalar.muli arg0 c5_i32
  let c5_i32_0 : BitVec 32 := 5#32
  let v1 : BitVec 32 := Scalar.addi v0 c5_i32_0
  let c99_i32 : BitVec 32 := 99#32
  let v2 : BitVec 32 := Scalar.minsi v1 c99_i32
  let c0_i32 : BitVec 32 := 0#32
  let c0_i32_1 : BitVec 32 := 0#32
  let c0_i32_2 : BitVec 32 := 0#32
  let c0_i32_3 : BitVec 32 := 0#32
  ![c0_i32.toNat, v2.toNat, c0_i32_1.toNat, c0_i32_2.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 2 → Memref sig .tc .vmem S4x2x500x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x10x500x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x2x500x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S192x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4x10x500x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 4 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_2 (i : grid3.Coords) : Fin 4 → Nat :=
  let arg0 : BitVec 32 := BitVec.ofNat 32 (i 0).val
  let c5_i32 : BitVec 32 := 5#32
  let v0 : BitVec 32 := Scalar.muli arg0 c5_i32
  let c5_i32_0 : BitVec 32 := 5#32
  let v1 : BitVec 32 := Scalar.addi v0 c5_i32_0
  let c99_i32 : BitVec 32 := 99#32
  let v2 : BitVec 32 := Scalar.minsi v1 c99_i32
  let c0_i32 : BitVec 32 := 0#32
  let c0_i32_1 : BitVec 32 := 0#32
  let c0_i32_2 : BitVec 32 := 0#32
  let c0_i32_3 : BitVec 32 := 0#32
  ![c0_i32.toNat, v2.toNat, c0_i32_1.toNat, c0_i32_2.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage3_0 : Fin 2 → Memref sig .tc .vmem S4x2x500x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x10x500x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4x2x500x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S192x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4x10x500x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 4 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_2 (i : grid4.Coords) : Fin 4 → Nat :=
  let arg0 : BitVec 32 := BitVec.ofNat 32 (i 0).val
  let c5_i32 : BitVec 32 := 5#32
  let v0 : BitVec 32 := Scalar.muli arg0 c5_i32
  let c5_i32_0 : BitVec 32 := 5#32
  let v1 : BitVec 32 := Scalar.addi v0 c5_i32_0
  let c99_i32 : BitVec 32 := 99#32
  let v2 : BitVec 32 := Scalar.minsi v1 c99_i32
  let c0_i32 : BitVec 32 := 0#32
  let c0_i32_1 : BitVec 32 := 0#32
  let c0_i32_2 : BitVec 32 := 0#32
  let c0_i32_3 : BitVec 32 := 0#32
  ![c0_i32.toNat, v2.toNat, c0_i32_1.toNat, c0_i32_2.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage4_0 : Fin 2 → Memref sig .tc .vmem S4x2x500x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4x10x500x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4x2x500x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S192x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4x10x500x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== ReferenceIdeal.lean ====
abbrev S4x100000x128 : Shape := ⟨3, ![4, 100000, 128]⟩
abbrev S384x64 : Shape := ⟨2, ![384, 64]⟩
abbrev S192x64 : Shape := ⟨2, ![192, 64]⟩
abbrev S192x128 : Shape := ⟨2, ![192, 128]⟩
abbrev S399000 : Shape := ⟨1, ![399000]⟩
abbrev S100000 : Shape := ⟨1, ![100000]⟩
abbrev S200x500 : Shape := ⟨2, ![200, 500]⟩
abbrev S200x499 : Shape := ⟨2, ![200, 499]⟩
abbrev S200x1 : Shape := ⟨2, ![200, 1]⟩
abbrev S199x500 : Shape := ⟨2, ![199, 500]⟩
abbrev S99500 : Shape := ⟨1, ![99500]⟩
abbrev S_ : Shape := ⟨0, ![]⟩
abbrev S399000x1 : Shape := ⟨2, ![399000, 1]⟩
abbrev S100000x4x128 : Shape := ⟨3, ![100000, 4, 128]⟩
abbrev S100000x512 : Shape := ⟨2, ![100000, 512]⟩
abbrev S399000x512 : Shape := ⟨2, ![399000, 512]⟩
abbrev S1x100000x512 : Shape := ⟨3, ![1, 100000, 512]⟩
abbrev S3x100000x512 : Shape := ⟨3, ![3, 100000, 512]⟩
abbrev S3x100000x4x128 : Shape := ⟨4, ![3, 100000, 4, 128]⟩
abbrev S4x100000x3x128 : Shape := ⟨4, ![4, 100000, 3, 128]⟩
abbrev S4x100000x384 : Shape := ⟨3, ![4, 100000, 384]⟩
abbrev S4x100000x64 : Shape := ⟨3, ![4, 100000, 64]⟩
abbrev S100000x4x64 : Shape := ⟨3, ![100000, 4, 64]⟩
abbrev S100000x256 : Shape := ⟨2, ![100000, 256]⟩
abbrev S399000x256 : Shape := ⟨2, ![399000, 256]⟩
abbrev S1x100000x256 : Shape := ⟨3, ![1, 100000, 256]⟩
abbrev S3x100000x256 : Shape := ⟨3, ![3, 100000, 256]⟩
abbrev S3x100000x4x64 : Shape := ⟨4, ![3, 100000, 4, 64]⟩
abbrev S4x100000x3x64 : Shape := ⟨4, ![4, 100000, 3, 64]⟩
abbrev S4x100000x192 : Shape := ⟨3, ![4, 100000, 192]⟩

abbrev nBuf : Space → Nat
  | .hbm => 341
  | .vmem => 0
  | .smem => 0
  | _ => 0

abbrev hbmTy0_0 (i : Nat) : BufTy := match i % 128 with
  | 0 => ⟨S4x100000x128, .f32⟩
  | 1 => ⟨S384x64, .f32⟩
  | 2 => ⟨S192x64, .f32⟩
  | 3 => ⟨S192x64, .f32⟩
  | 4 => ⟨S192x64, .f32⟩
  | 5 => ⟨S192x128, .f32⟩
  | 6 => ⟨S399000, .i32⟩
  | 7 => ⟨S399000, .i32⟩
  | 8 => ⟨S399000, .f32⟩
  | 9 => ⟨S100000, .i32⟩
  | 10 => ⟨S200x500, .i32⟩
  | 11 => ⟨S100000, .i32⟩
  | 12 => ⟨S200x499, .i32⟩
  | 13 => ⟨S200x1, .i32⟩
  | 14 => ⟨S200x500, .i32⟩
  | 15 => ⟨S100000, .i32⟩
  | 16 => ⟨S199x500, .i32⟩
  | 17 => ⟨S99500, .i32⟩
  | 18 => ⟨S199x500, .i32⟩
  | 19 => ⟨S99500, .i32⟩
  | 20 => ⟨S399000, .i32⟩
  | 21 => ⟨S399000, .i32⟩
  | 22 => ⟨S_, .f32⟩
  | 23 => ⟨S399000, .f32⟩
  | 24 => ⟨S_, .f32⟩
  | 25 => ⟨S100000, .f32⟩
  | 26 => ⟨S399000x1, .i32⟩
  | 27 => ⟨S100000, .f32⟩
  | 28 => ⟨S_, .i32⟩
  | 29 => ⟨S399000, .i32⟩
  | 30 => ⟨S399000, .i1⟩
  | 31 => ⟨S_, .i32⟩
  | 32 => ⟨S399000, .i32⟩
  | 33 => ⟨S399000, .i32⟩
  | 34 => ⟨S399000, .i32⟩
  | 35 => ⟨S399000x1, .i32⟩
  | 36 => ⟨S399000, .f32⟩
  | 37 => ⟨S_, .i32⟩
  | 38 => ⟨S399000, .i32⟩
  | 39 => ⟨S399000, .i1⟩
  | 40 => ⟨S_, .i32⟩
  | 41 => ⟨S399000, .i32⟩
  | 42 => ⟨S399000, .i32⟩
  | 43 => ⟨S399000, .i32⟩
  | 44 => ⟨S399000x1, .i32⟩
  | 45 => ⟨S399000, .f32⟩
  | 46 => ⟨S399000, .f32⟩
  | 47 => ⟨S399000, .f32⟩
  | 48 => ⟨S_, .f32⟩
  | 49 => ⟨S399000, .f32⟩
  | 50 => ⟨S399000, .f32⟩
  | 51 => ⟨S100000x4x128, .f32⟩
  | 52 => ⟨S100000x512, .f32⟩
  | 53 => ⟨S399000x1, .f32⟩
  | 54 => ⟨S_, .i32⟩
  | 55 => ⟨S399000, .i32⟩
  | 56 => ⟨S399000, .i1⟩
  | 57 => ⟨S_, .i32⟩
  | 58 => ⟨S399000, .i32⟩
  | 59 => ⟨S399000, .i32⟩
  | 60 => ⟨S399000, .i32⟩
  | 61 => ⟨S399000x1, .i32⟩
  | 62 => ⟨S399000x512, .f32⟩
  | 63 => ⟨S399000x512, .f32⟩
  | 64 => ⟨S399000x512, .f32⟩
  | 65 => ⟨S_, .f32⟩
  | 66 => ⟨S100000x512, .f32⟩
  | 67 => ⟨S399000x1, .i32⟩
  | 68 => ⟨S100000x512, .f32⟩
  | 69 => ⟨S399000x1, .f32⟩
  | 70 => ⟨S_, .i32⟩
  | 71 => ⟨S399000, .i32⟩
  | 72 => ⟨S399000, .i1⟩
  | 73 => ⟨S_, .i32⟩
  | 74 => ⟨S399000, .i32⟩
  | 75 => ⟨S399000, .i32⟩
  | 76 => ⟨S399000, .i32⟩
  | 77 => ⟨S399000x1, .i32⟩
  | 78 => ⟨S399000x512, .f32⟩
  | 79 => ⟨S399000x512, .f32⟩
  | 80 => ⟨S399000x512, .f32⟩
  | 81 => ⟨S_, .f32⟩
  | 82 => ⟨S100000x512, .f32⟩
  | 83 => ⟨S399000x1, .i32⟩
  | 84 => ⟨S100000x512, .f32⟩
  | 85 => ⟨S_, .f32⟩
  | 86 => ⟨S100000x512, .f32⟩
  | 87 => ⟨S100000x512, .f32⟩
  | 88 => ⟨S100000x512, .f32⟩
  | 89 => ⟨S1x100000x512, .f32⟩
  | 90 => ⟨S1x100000x512, .f32⟩
  | 91 => ⟨S1x100000x512, .f32⟩
  | 92 => ⟨S3x100000x512, .f32⟩
  | 93 => ⟨S3x100000x4x128, .f32⟩
  | 94 => ⟨S4x100000x3x128, .f32⟩
  | 95 => ⟨S4x100000x384, .f32⟩
  | 96 => ⟨S4x100000x64, .f32⟩
  | 97 => ⟨S_, .f32⟩
  | 98 => ⟨S4x100000x64, .f32⟩
  | 99 => ⟨S4x100000x64, .i1⟩
  | 100 => ⟨S_, .f32⟩
  | 101 => ⟨S4x100000x64, .f32⟩
  | 102 => ⟨S4x100000x64, .i1⟩
  | 103 => ⟨S_, .f32⟩
  | 104 => ⟨S_, .f32⟩
  | 105 => ⟨S4x100000x64, .f32⟩
  | 106 => ⟨S4x100000x64, .f32⟩
  | 107 => ⟨S4x100000x64, .f32⟩
  | 108 => ⟨S_, .f32⟩
  | 109 => ⟨S4x100000x64, .f32⟩
  | 110 => ⟨S4x100000x64, .f32⟩
  | 111 => ⟨S4x100000x64, .f32⟩
  | 112 => ⟨S100000x4x64, .f32⟩
  | 113 => ⟨S100000x256, .f32⟩
  | 114 => ⟨S399000x1, .f32⟩
  | 115 => ⟨S_, .i32⟩
  | 116 => ⟨S399000, .i32⟩
  | 117 => ⟨S399000, .i1⟩
  | 118 => ⟨S_, .i32⟩
  | 119 => ⟨S399000, .i32⟩
  | 120 => ⟨S399000, .i32⟩
  | 121 => ⟨S399000, .i32⟩
  | 122 => ⟨S399000x1, .i32⟩
  | 123 => ⟨S399000x256, .f32⟩
  | 124 => ⟨S399000x256, .f32⟩
  | 125 => ⟨S399000x256, .f32⟩
  | 126 => ⟨S_, .f32⟩
  | 127 => ⟨S100000x256, .f32⟩
  | _ => ⟨S4x100000x128, .f32⟩

abbrev hbmTy0_1 (i : Nat) : BufTy := match i % 128 with
  | 0 => ⟨S399000x1, .i32⟩
  | 1 => ⟨S100000x256, .f32⟩
  | 2 => ⟨S399000x1, .f32⟩
  | 3 => ⟨S_, .i32⟩
  | 4 => ⟨S399000, .i32⟩
  | 5 => ⟨S399000, .i1⟩
  | 6 => ⟨S_, .i32⟩
  | 7 => ⟨S399000, .i32⟩
  | 8 => ⟨S399000, .i32⟩
  | 9 => ⟨S399000, .i32⟩
  | 10 => ⟨S399000x1, .i32⟩
  | 11 => ⟨S399000x256, .f32⟩
  | 12 => ⟨S399000x256, .f32⟩
  | 13 => ⟨S399000x256, .f32⟩
  | 14 => ⟨S_, .f32⟩
  | 15 => ⟨S100000x256, .f32⟩
  | 16 => ⟨S399000x1, .i32⟩
  | 17 => ⟨S100000x256, .f32⟩
  | 18 => ⟨S_, .f32⟩
  | 19 => ⟨S100000x256, .f32⟩
  | 20 => ⟨S100000x256, .f32⟩
  | 21 => ⟨S100000x256, .f32⟩
  | 22 => ⟨S1x100000x256, .f32⟩
  | 23 => ⟨S1x100000x256, .f32⟩
  | 24 => ⟨S1x100000x256, .f32⟩
  | 25 => ⟨S3x100000x256, .f32⟩
  | 26 => ⟨S3x100000x4x64, .f32⟩
  | 27 => ⟨S4x100000x3x64, .f32⟩
  | 28 => ⟨S4x100000x192, .f32⟩
  | 29 => ⟨S4x100000x64, .f32⟩
  | 30 => ⟨S_, .f32⟩
  | 31 => ⟨S4x100000x64, .f32⟩
  | 32 => ⟨S4x100000x64, .i1⟩
  | 33 => ⟨S_, .f32⟩
  | 34 => ⟨S4x100000x64, .f32⟩
  | 35 => ⟨S4x100000x64, .i1⟩
  | 36 => ⟨S_, .f32⟩
  | 37 => ⟨S_, .f32⟩
  | 38 => ⟨S4x100000x64, .f32⟩
  | 39 => ⟨S4x100000x64, .f32⟩
  | 40 => ⟨S4x100000x64, .f32⟩
  | 41 => ⟨S_, .f32⟩
  | 42 => ⟨S4x100000x64, .f32⟩
  | 43 => ⟨S4x100000x64, .f32⟩
  | 44 => ⟨S4x100000x64, .f32⟩
  | 45 => ⟨S100000x4x64, .f32⟩
  | 46 => ⟨S100000x256, .f32⟩
  | 47 => ⟨S399000x1, .f32⟩
  | 48 => ⟨S_, .i32⟩
  | 49 => ⟨S399000, .i32⟩
  | 50 => ⟨S399000, .i1⟩
  | 51 => ⟨S_, .i32⟩
  | 52 => ⟨S399000, .i32⟩
  | 53 => ⟨S399000, .i32⟩
  | 54 => ⟨S399000, .i32⟩
  | 55 => ⟨S399000x1, .i32⟩
  | 56 => ⟨S399000x256, .f32⟩
  | 57 => ⟨S399000x256, .f32⟩
  | 58 => ⟨S399000x256, .f32⟩
  | 59 => ⟨S_, .f32⟩
  | 60 => ⟨S100000x256, .f32⟩
  | 61 => ⟨S399000x1, .i32⟩
  | 62 => ⟨S100000x256, .f32⟩
  | 63 => ⟨S399000x1, .f32⟩
  | 64 => ⟨S_, .i32⟩
  | 65 => ⟨S399000, .i32⟩
  | 66 => ⟨S399000, .i1⟩
  | 67 => ⟨S_, .i32⟩
  | 68 => ⟨S399000, .i32⟩
  | 69 => ⟨S399000, .i32⟩
  | 70 => ⟨S399000, .i32⟩
  | 71 => ⟨S399000x1, .i32⟩
  | 72 => ⟨S399000x256, .f32⟩
  | 73 => ⟨S399000x256, .f32⟩
  | 74 => ⟨S399000x256, .f32⟩
  | 75 => ⟨S_, .f32⟩
  | 76 => ⟨S100000x256, .f32⟩
  | 77 => ⟨S399000x1, .i32⟩
  | 78 => ⟨S100000x256, .f32⟩
  | 79 => ⟨S_, .f32⟩
  | 80 => ⟨S100000x256, .f32⟩
  | 81 => ⟨S100000x256, .f32⟩
  | 82 => ⟨S100000x256, .f32⟩
  | 83 => ⟨S1x100000x256, .f32⟩
  | 84 => ⟨S1x100000x256, .f32⟩
  | 85 => ⟨S1x100000x256, .f32⟩
  | 86 => ⟨S3x100000x256, .f32⟩
  | 87 => ⟨S3x100000x4x64, .f32⟩
  | 88 => ⟨S4x100000x3x64, .f32⟩
  | 89 => ⟨S4x100000x192, .f32⟩
  | 90 => ⟨S4x100000x64, .f32⟩
  | 91 => ⟨S_, .f32⟩
  | 92 => ⟨S4x100000x64, .f32⟩
  | 93 => ⟨S4x100000x64, .i1⟩
  | 94 => ⟨S_, .f32⟩
  | 95 => ⟨S4x100000x64, .f32⟩
  | 96 => ⟨S4x100000x64, .i1⟩
  | 97 => ⟨S_, .f32⟩
  | 98 => ⟨S_, .f32⟩
  | 99 => ⟨S4x100000x64, .f32⟩
  | 100 => ⟨S4x100000x64, .f32⟩
  | 101 => ⟨S4x100000x64, .f32⟩
  | 102 => ⟨S_, .f32⟩
  | 103 => ⟨S4x100000x64, .f32⟩
  | 104 => ⟨S4x100000x64, .f32⟩
  | 105 => ⟨S4x100000x64, .f32⟩
  | 106 => ⟨S100000x4x64, .f32⟩
  | 107 => ⟨S100000x256, .f32⟩
  | 108 => ⟨S399000x1, .f32⟩
  | 109 => ⟨S_, .i32⟩
  | 110 => ⟨S399000, .i32⟩
  | 111 => ⟨S399000, .i1⟩
  | 112 => ⟨S_, .i32⟩
  | 113 => ⟨S399000, .i32⟩
  | 114 => ⟨S399000, .i32⟩
  | 115 => ⟨S399000, .i32⟩
  | 116 => ⟨S399000x1, .i32⟩
  | 117 => ⟨S399000x256, .f32⟩
  | 118 => ⟨S399000x256, .f32⟩
  | 119 => ⟨S399000x256, .f32⟩
  | 120 => ⟨S_, .f32⟩
  | 121 => ⟨S100000x256, .f32⟩
  | 122 => ⟨S399000x1, .i32⟩
  | 123 => ⟨S100000x256, .f32⟩
  | 124 => ⟨S399000x1, .f32⟩
  | 125 => ⟨S_, .i32⟩
  | 126 => ⟨S399000, .i32⟩
  | 127 => ⟨S399000, .i1⟩
  | _ => ⟨S4x100000x128, .f32⟩

abbrev hbmTy0_2 (i : Nat) : BufTy := match i % 128 with
  | 0 => ⟨S_, .i32⟩
  | 1 => ⟨S399000, .i32⟩
  | 2 => ⟨S399000, .i32⟩
  | 3 => ⟨S399000, .i32⟩
  | 4 => ⟨S399000x1, .i32⟩
  | 5 => ⟨S399000x256, .f32⟩
  | 6 => ⟨S399000x256, .f32⟩
  | 7 => ⟨S399000x256, .f32⟩
  | 8 => ⟨S_, .f32⟩
  | 9 => ⟨S100000x256, .f32⟩
  | 10 => ⟨S399000x1, .i32⟩
  | 11 => ⟨S100000x256, .f32⟩
  | 12 => ⟨S_, .f32⟩
  | 13 => ⟨S100000x256, .f32⟩
  | 14 => ⟨S100000x256, .f32⟩
  | 15 => ⟨S100000x256, .f32⟩
  | 16 => ⟨S1x100000x256, .f32⟩
  | 17 => ⟨S1x100000x256, .f32⟩
  | 18 => ⟨S1x100000x256, .f32⟩
  | 19 => ⟨S3x100000x256, .f32⟩
  | 20 => ⟨S3x100000x4x64, .f32⟩
  | 21 => ⟨S4x100000x3x64, .f32⟩
  | 22 => ⟨S4x100000x192, .f32⟩
  | 23 => ⟨S4x100000x64, .f32⟩
  | 24 => ⟨S_, .f32⟩
  | 25 => ⟨S4x100000x64, .f32⟩
  | 26 => ⟨S4x100000x64, .i1⟩
  | 27 => ⟨S_, .f32⟩
  | 28 => ⟨S4x100000x64, .f32⟩
  | 29 => ⟨S4x100000x64, .i1⟩
  | 30 => ⟨S_, .f32⟩
  | 31 => ⟨S_, .f32⟩
  | 32 => ⟨S4x100000x64, .f32⟩
  | 33 => ⟨S4x100000x64, .f32⟩
  | 34 => ⟨S4x100000x64, .f32⟩
  | 35 => ⟨S_, .f32⟩
  | 36 => ⟨S4x100000x64, .f32⟩
  | 37 => ⟨S4x100000x64, .f32⟩
  | 38 => ⟨S4x100000x64, .f32⟩
  | 39 => ⟨S100000x4x64, .f32⟩
  | 40 => ⟨S100000x256, .f32⟩
  | 41 => ⟨S399000x1, .f32⟩
  | 42 => ⟨S_, .i32⟩
  | 43 => ⟨S399000, .i32⟩
  | 44 => ⟨S399000, .i1⟩
  | 45 => ⟨S_, .i32⟩
  | 46 => ⟨S399000, .i32⟩
  | 47 => ⟨S399000, .i32⟩
  | 48 => ⟨S399000, .i32⟩
  | 49 => ⟨S399000x1, .i32⟩
  | 50 => ⟨S399000x256, .f32⟩
  | 51 => ⟨S399000x256, .f32⟩
  | 52 => ⟨S399000x256, .f32⟩
  | 53 => ⟨S_, .f32⟩
  | 54 => ⟨S100000x256, .f32⟩
  | 55 => ⟨S399000x1, .i32⟩
  | 56 => ⟨S100000x256, .f32⟩
  | 57 => ⟨S399000x1, .f32⟩
  | 58 => ⟨S_, .i32⟩
  | 59 => ⟨S399000, .i32⟩
  | 60 => ⟨S399000, .i1⟩
  | 61 => ⟨S_, .i32⟩
  | 62 => ⟨S399000, .i32⟩
  | 63 => ⟨S399000, .i32⟩
  | 64 => ⟨S399000, .i32⟩
  | 65 => ⟨S399000x1, .i32⟩
  | 66 => ⟨S399000x256, .f32⟩
  | 67 => ⟨S399000x256, .f32⟩
  | 68 => ⟨S399000x256, .f32⟩
  | 69 => ⟨S_, .f32⟩
  | 70 => ⟨S100000x256, .f32⟩
  | 71 => ⟨S399000x1, .i32⟩
  | 72 => ⟨S100000x256, .f32⟩
  | 73 => ⟨S_, .f32⟩
  | 74 => ⟨S100000x256, .f32⟩
  | 75 => ⟨S100000x256, .f32⟩
  | 76 => ⟨S100000x256, .f32⟩
  | 77 => ⟨S1x100000x256, .f32⟩
  | 78 => ⟨S1x100000x256, .f32⟩
  | 79 => ⟨S1x100000x256, .f32⟩
  | 80 => ⟨S3x100000x256, .f32⟩
  | 81 => ⟨S3x100000x4x64, .f32⟩
  | 82 => ⟨S4x100000x3x64, .f32⟩
  | 83 => ⟨S4x100000x192, .f32⟩
  | 84 => ⟨S4x100000x128, .f32⟩
  | _ => ⟨S4x100000x128, .f32⟩

abbrev hbmTy (i : Nat) : BufTy := match i / 128 with
  | 0 => hbmTy0_0 i
  | 1 => hbmTy0_1 i
  | 2 => hbmTy0_2 i
  | _ => ⟨S4x100000x128, .f32⟩

abbrev bufTy : (tb : Table) → Fin (tcTables nBuf tb) → BufTy
  | .hbm, ⟨i, _⟩ => hbmTy i
  | _, _ => ⟨S4x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_cst_1 : Ref sig .tc := ⟨.hbm, 103, rfl⟩
abbrev main_call1_call0_v0 : Ref sig .tc := ⟨.hbm, 104, rfl⟩
abbrev main_call1_call0_v1 : Ref sig .tc := ⟨.hbm, 105, rfl⟩
abbrev main_call1_v4 : Ref sig .tc := ⟨.hbm, 106, rfl⟩
abbrev main_call1_v5 : Ref sig .tc := ⟨.hbm, 107, rfl⟩
abbrev main_call1_cst_2 : Ref sig .tc := ⟨.hbm, 108, rfl⟩
abbrev main_call1_v6 : Ref sig .tc := ⟨.hbm, 109, rfl⟩
abbrev main_call1_v7 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_12 : Ref sig .tc := ⟨.hbm, 115, rfl⟩
abbrev main_v76 : Ref sig .tc := ⟨.hbm, 116, rfl⟩
abbrev main_v77 : Ref sig .tc := ⟨.hbm, 117, rfl⟩
abbrev main_c_13 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_14 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_15 : Ref sig .tc := ⟨.hbm, 131, rfl⟩
abbrev main_v89 : Ref sig .tc := ⟨.hbm, 132, rfl⟩
abbrev main_v90 : Ref sig .tc := ⟨.hbm, 133, rfl⟩
abbrev main_c_16 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_17 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_18 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_cst_0 : Ref sig .tc := ⟨.hbm, 161, rfl⟩
abbrev main_call2_v2 : Ref sig .tc := ⟨.hbm, 162, rfl⟩
abbrev main_call2_v3 : Ref sig .tc := ⟨.hbm, 163, rfl⟩
abbrev main_call2_cst_1 : Ref sig .tc := ⟨.hbm, 164, rfl⟩
abbrev main_call2_call0_v0 : Ref sig .tc := ⟨.hbm, 165, rfl⟩
abbrev main_call2_call0_v1 : Ref sig .tc := ⟨.hbm, 166, rfl⟩
abbrev main_call2_v4 : Ref sig .tc := ⟨.hbm, 167, rfl⟩
abbrev main_call2_v5 : Ref sig .tc := ⟨.hbm, 168, rfl⟩
abbrev main_call2_cst_2 : Ref sig .tc := ⟨.hbm, 169, rfl⟩
abbrev main_call2_v6 : Ref sig .tc := ⟨.hbm, 170, rfl⟩
abbrev main_call2_v7 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_c_19 : Ref sig .tc := ⟨.hbm, 176, rfl⟩
abbrev main_v116 : Ref sig .tc := ⟨.hbm, 177, rfl⟩
abbrev main_v117 : Ref sig .tc := ⟨.hbm, 178, rfl⟩
abbrev main_c_20 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_21 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_c_22 : Ref sig .tc := ⟨.hbm, 192, rfl⟩
abbrev main_v129 : Ref sig .tc := ⟨.hbm, 193, rfl⟩
abbrev main_v130 : Ref sig .tc := ⟨.hbm, 194, rfl⟩
abbrev main_c_23 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_24 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_cst_25 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_call3_cst : Ref sig .tc := ⟨.hbm, 219, rfl⟩
abbrev main_call3_v0 : Ref sig .tc := ⟨.hbm, 220, rfl⟩
abbrev main_call3_v1 : Ref sig .tc := ⟨.hbm, 221, rfl⟩
abbrev main_call3_cst_0 : Ref sig .tc := ⟨.hbm, 222, rfl⟩
abbrev main_call3_v2 : Ref sig .tc := ⟨.hbm, 223, rfl⟩
abbrev main_call3_v3 : Ref sig .tc := ⟨.hbm, 224, rfl⟩
abbrev main_call3_cst_1 : Ref sig .tc := ⟨.hbm, 225, rfl⟩
abbrev main_call3_call0_v0 : Ref sig .tc := ⟨.hbm, 226, rfl⟩
abbrev main_call3_call0_v1 : Ref sig .tc := ⟨.hbm, 227, rfl⟩
abbrev main_call3_v4 : Ref sig .tc := ⟨.hbm, 228, rfl⟩
abbrev main_call3_v5 : Ref sig .tc := ⟨.hbm, 229, rfl⟩
abbrev main_call3_cst_2 : Ref sig .tc := ⟨.hbm, 230, rfl⟩
abbrev main_call3_v6 : Ref sig .tc := ⟨.hbm, 231, rfl⟩
abbrev main_call3_v7 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_c_26 : Ref sig .tc := ⟨.hbm, 237, rfl⟩
abbrev main_v156 : Ref sig .tc := ⟨.hbm, 238, rfl⟩
abbrev main_v157 : Ref sig .tc := ⟨.hbm, 239, rfl⟩
abbrev main_c_27 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_cst_28 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_c_29 : Ref sig .tc := ⟨.hbm, 253, rfl⟩
abbrev main_v169 : Ref sig .tc := ⟨.hbm, 254, rfl⟩
abbrev main_v170 : Ref sig .tc := ⟨.hbm, 255, rfl⟩
abbrev main_c_30 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_cst_31 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_cst_32 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_call4_cst : Ref sig .tc := ⟨.hbm, 280, rfl⟩
abbrev main_call4_v0 : Ref sig .tc := ⟨.hbm, 281, rfl⟩
abbrev main_call4_v1 : Ref sig .tc := ⟨.hbm, 282, rfl⟩
abbrev main_call4_cst_0 : Ref sig .tc := ⟨.hbm, 283, rfl⟩
abbrev main_call4_v2 : Ref sig .tc := ⟨.hbm, 284, rfl⟩
abbrev main_call4_v3 : Ref sig .tc := ⟨.hbm, 285, rfl⟩
abbrev main_call4_cst_1 : Ref sig .tc := ⟨.hbm, 286, rfl⟩
abbrev main_call4_call0_v0 : Ref sig .tc := ⟨.hbm, 287, rfl⟩
abbrev main_call4_call0_v1 : Ref sig .tc := ⟨.hbm, 288, rfl⟩
abbrev main_call4_v4 : Ref sig .tc := ⟨.hbm, 289, rfl⟩
abbrev main_call4_v5 : Ref sig .tc := ⟨.hbm, 290, rfl⟩
abbrev main_call4_cst_2 : Ref sig .tc := ⟨.hbm, 291, rfl⟩
abbrev main_call4_v6 : Ref sig .tc := ⟨.hbm, 292, rfl⟩
abbrev main_call4_v7 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_c_33 : Ref sig .tc := ⟨.hbm, 298, rfl⟩
abbrev main_v196 : Ref sig .tc := ⟨.hbm, 299, rfl⟩
abbrev main_v197 : Ref sig .tc := ⟨.hbm, 300, rfl⟩
abbrev main_c_34 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_cst_35 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_c_36 : Ref sig .tc := ⟨.hbm, 314, rfl⟩
abbrev main_v209 : Ref sig .tc := ⟨.hbm, 315, rfl⟩
abbrev main_v210 : Ref sig .tc := ⟨.hbm, 316, rfl⟩
abbrev main_c_37 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_cst_38 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_cst_39 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩

abbrev nD : Nat := 1
abbrev τ : Topo := Topo.v7x

variable {F : FTy → Type} [FloatOps F]
-- ==== Proof.KRun.lean ====
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one
set_option backward.isDefEq.respectTransparency.types false in
/-- The run, with the result array read off the last boundary. -/
theorem result_run : θ_run defs (onTc (τ := τ) (main (F := F))) ⟨m, fun _ => 0, ρ⟩ (fun r => ∀ c : Dev nD,
      r.2.mem ((c.tc : Thread nD τ).loc main_v11) = W11 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => fun c =>
      ⟨h c _ (mem_uc main_v11 (by decide)), (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Gen
-- ==== Proof.Spec.lean ====
module

public import Idealize.ShloMosaic.Lib.Pointwise
public import Idealize.ShloMosaic.PureOps.Ideal.Laws

@[expose] public section

open Idealize.ShloMosaic

namespace Cert.Cheb

noncomputable section

/-! # The network as a function on the grid

A feature plane is a function of the row (an integer) and the column (a natural number). Only rows 0 to 199 and
columns 0 to 499 matter. Rows are integers so that the row above row 0 has a name; its weight is zero. -/

/-- The number of neighbours of a vertex in row `z`. -/
def degZ (z : ℤ) : ℝ := if z = 0 ∨ z = 199 then 3 else 4

/-- The Laplacian's weight of an edge along row `z`. -/
def wH (z : ℤ) : ℝ := -1 / degZ z
/-- The weight of the edge between rows `z - 1` and `z`, zero off the grid. -/
def wU (z : ℤ) : ℝ := if 1 ≤ z ∧ z ≤ 199 then -1 / √(degZ (z - 1) * degZ z) else 0
/-- The weight of the edge between rows `z` and `z + 1`, zero off the grid. -/
def wD (z : ℤ) : ℝ := if 0 ≤ z ∧ z ≤ 198 then -1 / √(degZ z * degZ (z + 1)) else 0

/-- The Laplacian of one feature plane. -/
def lap (Z : ℤ → ℕ → EReal) (r : ℤ) (q : ℕ) : EReal :=
  (wH r : EReal) * (Z r ((q + 499) % 500) + Z r ((q + 1) % 500)) + (wU r : EReal) * Z (r - 1) q + (wD r : EReal) * Z (r + 1) q

/-- The third Chebyshev term of one feature plane. -/
def cheb2 (Z : ℤ → ℕ → EReal) (r : ℤ) (q : ℕ) : EReal := 2 * lap (lap Z) r q - Z r q

/-- One Chebyshev convolution with `f` input features: output feature `o` at one vertex. -/
def conv (f : ℕ) (W : ℕ → ℕ → EReal) (Z : ℕ → ℤ → ℕ → EReal) (o : ℕ) (r : ℤ) (q : ℕ) : EReal :=
  (∑ k : Fin f, Z k r q * W k o) + (∑ k : Fin f, lap (Z k) r q * W (f + k) o) + ∑ k : Fin f, cheb2 (Z k) r q * W (2 * f + k) o

/-- The activation. -/
def elu (a : EReal) : EReal := if 0 < a then a else Ideal.exp (min a 0) - 1

/-- A convolution with the activation. -/
def layer (f : ℕ) (W : ℕ → ℕ → EReal) (Z : ℕ → ℤ → ℕ → EReal) (o : ℕ) (r : ℤ) (q : ℕ) : EReal := elu (conv f W Z o r q)

/-! ## Weights, distribution, and the values that never occur -/

theorem degZ_pos (z : ℤ) : 0 < degZ z := by unfold degZ; split <;> norm_num

theorem wH_nonpos (z : ℤ) : wH z ≤ 0 := by
  unfold wH; exact div_nonpos_of_nonpos_of_nonneg (by norm_num) (degZ_pos z).le
theorem wU_nonpos (z : ℤ) : wU z ≤ 0 := by
  unfold wU; split
  · exact div_nonpos_of_nonpos_of_nonneg (by norm_num) (Real.sqrt_nonneg _)
  · exact le_rfl
theorem wD_nonpos (z : ℤ) : wD z ≤ 0 := by
  unfold wD; split
  · exact div_nonpos_of_nonpos_of_nonneg (by norm_num) (Real.sqrt_nonneg _)
  · exact le_rfl

/-- The product of a nonpositive real and a value other than minus infinity is not plus infinity. -/
theorem nonpos_mul_ne_top {c : ℝ} (hc : c ≤ 0) {a : EReal} (ha : a ≠ ⊥) : (c : EReal) * a ≠ ⊤ := by
  induction a with
  | bot => exact absurd rfl ha
  | coe x => rw [← EReal.coe_mul]; exact EReal.coe_ne_top _
  | top =>
    rcases hc.lt_or_eq with h | h
    · rw [EReal.coe_mul_top_of_neg h]; exact bot_ne_top
    · rw [h, EReal.coe_zero, zero_mul]; exact EReal.zero_ne_top

theorem mul_add_of_ne_bot (c : ℝ) {a b : EReal} (ha : a ≠ ⊥) (hb : b ≠ ⊥) : (c : EReal) * (a + b) = c * a + c * b := by
  induction a with
  | bot => exact absurd rfl ha
  | coe x =>
    induction b with
    | bot => exact absurd rfl hb
    | coe y => norm_cast; ring
    | top =>
      rw [EReal.coe_add_top]
      rcases lt_trichotomy c 0 with h | h | h
      · rw [EReal.coe_mul_top_of_neg h, EReal.add_bot]
      · rw [h]; simp
      · rw [EReal.coe_mul_top_of_pos h, ← EReal.coe_mul, EReal.coe_add_top]
  | top =>
    rw [EReal.top_add_of_ne_bot hb]
    rcases lt_trichotomy c 0 with h | h | h
    · rw [EReal.coe_mul_top_of_neg h, EReal.bot_add]
    · rw [h]; simp
    · rw [EReal.coe_mul_top_of_pos h, EReal.top_add_of_ne_bot]
      induction b with
      | bot => exact absurd rfl hb
      | coe y => rw [← EReal.coe_mul]; exact EReal.coe_ne_bot _
      | top => rw [EReal.coe_mul_top_of_pos h]; exact top_ne_bot

theorem mul_add_of_ne_top (c : ℝ) {a b : EReal} (ha : a ≠ ⊤) (hb : b ≠ ⊤) : (c : EReal) * (a + b) = c * a + c * b := by
  have h := mul_add_of_ne_bot (-c) (a := -a) (b := -b) (by simpa using ha) (by simpa using hb)
  rw [← sub_eq_add_neg, ← EReal.neg_add (.inr hb) (.inl ha)] at h
  simpa [EReal.coe_neg, neg_mul_neg] using h

/-- No value of a family of planes is minus infinity. -/
def NoBot (Z : ℤ → ℕ → EReal) : Prop := ∀ r q, Z r q ≠ ⊥
/-- No value of a plane is plus infinity. -/
def NoTop (Z : ℤ → ℕ → EReal) : Prop := ∀ r q, Z r q ≠ ⊤

theorem lap_noTop {Z : ℤ → ℕ → EReal} (h : NoBot Z) : NoTop (lap Z) := fun r q => by
  unfold lap
  have h1 : Z r ((q + 499) % 500) + Z r ((q + 1) % 500) ≠ ⊥ := by
    rw [Ne, EReal.add_eq_bot_iff, not_or]; exact ⟨h _ _, h _ _⟩
  exact (EReal.add_lt_top (EReal.add_lt_top (nonpos_mul_ne_top (wH_nonpos r) h1).lt_top.ne (nonpos_mul_ne_top (wU_nonpos r) (h _ _))).ne
    (nonpos_mul_ne_top (wD_nonpos r) (h _ _))).ne

/-- The Laplacian with its row weight multiplied out, as a sum over edges reads it. -/
def lapE (Z : ℤ → ℕ → EReal) (r : ℤ) (q : ℕ) : EReal :=
  (wH r : EReal) * Z r ((q + 499) % 500) + (wH r : EReal) * Z r ((q + 1) % 500) + (wU r : EReal) * Z (r - 1) q + (wD r : EReal) * Z (r + 1) q

theorem lapE_of_noBot {Z : ℤ → ℕ → EReal} (h : NoBot Z) : lapE Z = lap Z := by
  funext r q; unfold lapE lap; rw [mul_add_of_ne_bot _ (h _ _) (h _ _)]
theorem lapE_of_noTop {Z : ℤ → ℕ → EReal} (h : NoTop Z) : lapE Z = lap Z := by
  funext r q; unfold lapE lap; rw [mul_add_of_ne_top _ (h _ _) (h _ _)]

theorem exp_ne_bot (a : EReal) : Ideal.exp a ≠ ⊥ := by
  induction a with
  | bot => exact EReal.zero_ne_bot
  | coe x => exact EReal.coe_ne_bot _
  | top => exact top_ne_bot

theorem elu_ne_bot (a : EReal) : elu a ≠ ⊥ := by
  unfold elu
  split
  · rename_i h; exact (lt_of_le_of_lt bot_le h).ne'
  · rw [sub_eq_add_neg, Ne, EReal.add_eq_bot_iff, not_or]
    exact ⟨exp_ne_bot _, by rw [← EReal.coe_one, ← EReal.coe_neg]; exact EReal.coe_ne_bot _⟩

theorem layer_noBot (f : ℕ) (W : ℕ → ℕ → EReal) (Z : ℕ → ℤ → ℕ → EReal) (o : ℕ) : NoBot (layer f W Z o) := fun _ _ => elu_ne_bot _

end

end Cert.Cheb
-- ==== Proof.Graph.lean ====
module

public import proofs.«01_k».proof.Proof.Spec
public import Idealize.ShloMosaic.Lib.Pointwise.IndexVar
public import Idealize.ShloMosaic.Lib.Routing.OpsPair
public import Idealize.ShloMosaic.Lib.Routing.OpsSet
public import Idealize.ShloMosaic.Lib.Tactic.WordOmega

@[expose] public section

open Idealize.ShloMosaic

namespace Cert.Cheb

noncomputable section

/-! ## Accumulating scatters, read at an element -/

/-- The accumulating scatter of `n` rows of length `D` into `N` rows. -/
def rowScatter (N n D : ℕ) (wf : ScatterDims.WF ⟨2, ![N, D]⟩ ⟨2, ![n, 1]⟩ ⟨2, ![n, D]⟩ [1] [0] [0] 1) :
    ScatterDims ⟨2, ![N, D]⟩ ⟨2, ![n, 1]⟩ ⟨2, ![n, D]⟩ where
  updateWindowDims := [1]
  insertedWindowDims := [0]
  scatterDimsToOperandDims := [0]
  indexVectorDim := 1
  wf := wf

/-- The accumulating scatter of `n` scalars into a vector of `N`. -/
def vecScatter (N n : ℕ) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

theorem toInt_small {v : ℕ} (h : v < 2 ^ 31) : (BitVec.ofNat 32 v).toInt = (v : ℤ) := by word_omega

theorem rowScatter_apply (N n D : ℕ) (wf) (x : (⟨2, ![N, D]⟩ : Shape).Idx → EReal) (idx : IVec ⟨2, ![n, 1]⟩ 32)
    (upd : (⟨2, ![n, D]⟩ : Shape).Idx → EReal) (g : ℕ → ℕ) (hg : ∀ e : Fin n, idx (ix2 e 0) = BitVec.ofNat 32 (g e)) (hlt : ∀ e : Fin n, g e < 2 ^ 31)
    (r : Fin N) (c : Fin D) :
    Ideal.hostScatterAdd (rowScatter N n D wf) x idx upd (ix2 r c) = x (ix2 r c) + ∑ e : Fin n, if g e = r.val then upd (ix2 e c) else 0 := by
  have hl : ∀ (e : Fin n) (c' : Fin D), (rowScatter N n D wf).resultIdx? (ix2 e c') idx = some (ix2 r c) ↔ g e = r.val ∧ c' = c := by
    intro e c'
    rw [Routing.resultIdx?_eq_some]
    refine (Fin.forall_fin_two).trans ?_
    have s0 : (rowScatter N n D wf).start (ix2 e c') idx 0 = (idx (ix2 e 0)).toInt := by
      unfold ScatterDims.start
      have hm : (0 : Fin 2) ∈ (rowScatter N n D wf).scatterDimsToOperandDims := List.mem_singleton.2 rfl
      rw [dif_pos hm]
      congr 2
      funext a; fin_cases a <;> rfl
    have s1 : (rowScatter N n D wf).start (ix2 e c') idx 1 = 0 := rfl
    have w0 : (rowScatter N n D wf).window (ix2 e c') 0 = 0 := rfl
    have w1 : (rowScatter N n D wf).window (ix2 e c') 1 = c'.val := rfl
    rw [s0, s1, w0, w1, hg, toInt_small (hlt e), Fin.ext_iff]
    show (g e : ℤ) + ((0 : ℕ) : ℤ) = (r.val : ℤ) ∧ (0 : ℤ) + (c'.val : ℤ) = (c.val : ℤ) ↔ _
    omega
  unfold Ideal.hostScatterAdd
  congr 1
  rw [Finset.sum_filter, sum_idx2]
  refine Finset.sum_congr rfl fun e _ => ?_
  simp only [hl]
  by_cases h : g e = r.val
  · simp [h]
  · simp [h]

theorem vecScatter_apply (N n : ℕ) (wf) (x : (⟨1, ![N]⟩ : Shape).Idx → EReal) (idx : IVec ⟨2, ![n, 1]⟩ 32)
    (upd : (⟨1, ![n]⟩ : Shape).Idx → EReal) (g : ℕ → ℕ) (hg : ∀ e : Fin n, idx (ix2 e 0) = BitVec.ofNat 32 (g e)) (hlt : ∀ e : Fin n, g e < 2 ^ 31)
    (r : Fin N) :
    Ideal.hostScatterAdd (vecScatter N n wf) x idx upd (ix1 r) = x (ix1 r) + ∑ e : Fin n, if g e = r.val then upd (ix1 e) else 0 := by
  have hl : ∀ e : Fin n, (vecScatter N n wf).resultIdx? (ix1 e) idx = some (ix1 r) ↔ g e = r.val := by
    intro e
    rw [Routing.resultIdx?_eq_some]
    refine (Fin.forall_fin_one).trans ?_
    have s0 : (vecScatter N n wf).start (ix1 e) idx 0 = (idx (ix2 e 0)).toInt := by
      unfold ScatterDims.start
      have hm : (0 : Fin 1) ∈ (vecScatter N n wf).scatterDimsToOperandDims := List.mem_singleton.2 rfl
      rw [dif_pos hm]
      congr 2
      funext a; fin_cases a <;> rfl
    have w0 : (vecScatter N n wf).window (ix1 e) 0 = 0 := rfl
    rw [s0, w0, hg, toInt_small (hlt e)]
    show _ + ((0 : ℕ) : ℤ) = (r.val : ℤ) ↔ _
    omega
  unfold Ideal.hostScatterAdd
  congr 1
  rw [Finset.sum_filter, sum_idx1]
  refine Finset.sum_congr rfl fun e _ => ?_
  simp only [hl]

/-- The same two readings for the host's operation. -/
theorem host_rowScatter_apply (N n D : ℕ) (wf) (x : FVec Ideal ⟨2, ![N, D]⟩ .f32) (idx : IVec ⟨2, ![n, 1]⟩ 32)
    (upd : FVec Ideal ⟨2, ![n, D]⟩ .f32) (g : ℕ → ℕ) (hg : ∀ e : Fin n, idx (ix2 e 0) = BitVec.ofNat 32 (g e)) (hlt : ∀ e : Fin n, g e < 2 ^ 31)
    (r : Fin N) (c : Fin D) :
    Host.scatterAdd (rowScatter N n D wf) x idx upd (ix2 r c) = x (ix2 r c) + ∑ e : Fin n, if g e = r.val then upd (ix2 e c) else 0 :=
  rowScatter_apply N n D wf x idx upd g hg hlt r c

theorem host_vecScatter_apply (N n : ℕ) (wf) (x : FVec Ideal ⟨1, ![N]⟩ .f32) (idx : IVec ⟨2, ![n, 1]⟩ 32)
    (upd : FVec Ideal ⟨1, ![n]⟩ .f32) (g : ℕ → ℕ) (hg : ∀ e : Fin n, idx (ix2 e 0) = BitVec.ofNat 32 (g e)) (hlt : ∀ e : Fin n, g e < 2 ^ 31)
    (r : Fin N) :
    Host.scatterAdd (vecScatter N n wf) x idx upd (ix1 r) = x (ix1 r) + ∑ e : Fin n, if g e = r.val then upd (ix1 e) else 0 :=
  vecScatter_apply N n wf x idx upd g hg hlt r

/-! ## The edges of the grid -/

/-- The neighbours of a vertex along its row. -/
def rightOf (n : ℕ) : ℕ := n / 500 * 500 + (n % 500 + 1) % 500
def leftOf (n : ℕ) : ℕ := n / 500 * 500 + (n % 500 + 499) % 500

/-- The two ends of each of the 399000 directed edges. -/
def eSrc (e : ℕ) : ℕ :=
  if e < 100000 then e else if e < 200000 then rightOf (e - 100000) else if e < 299500 then e - 200000 else e - 299500 + 500
def eDst (e : ℕ) : ℕ :=
  if e < 100000 then rightOf e else if e < 200000 then e - 100000 else if e < 299500 then e - 200000 + 500 else e - 299500

theorem eSrc_lt {e : ℕ} (h : e < 399000) : eSrc e < 100000 := by unfold eSrc rightOf; split_ifs <;> omega
theorem eDst_lt {e : ℕ} (h : e < 399000) : eDst e < 100000 := by unfold eDst rightOf; split_ifs <;> omega

/-- A sum over a range in which at most one index counts. -/
theorem sum_range_one (N : ℕ) (p : ℕ → Prop) [DecidablePred p] (c : Prop) [Decidable c] (a : ℕ) (h : ∀ x < N, (p x ↔ c ∧ x = a)) (ha : c → a < N)
    (F : ℕ → EReal) : (∑ x ∈ Finset.range N, if p x then F x else 0) = if c then F a else 0 := by
  by_cases hc : c
  · rw [if_pos hc, Finset.sum_eq_single a]
    · rw [if_pos ((h a (ha hc)).2 ⟨hc, rfl⟩)]
    · intro x hx hne
      rw [if_neg fun hp => hne ((h x (Finset.mem_range.1 hx)).1 hp).2]
    · intro hx; exact absurd (Finset.mem_range.2 (ha hc)) hx
  · rw [if_neg hc]
    refine Finset.sum_eq_zero fun x hx => ?_
    rw [if_neg fun hp => hc ((h x (Finset.mem_range.1 hx)).1 hp).1]

/-- A sum over the edges, family by family. -/
theorem sum_edges (F : ℕ → EReal) : (∑ e : Fin 399000, F e) = (∑ x ∈ Finset.range 100000, F x) + (∑ x ∈ Finset.range 100000, F (100000 + x))
    + (∑ x ∈ Finset.range 99500, F (200000 + x)) + ∑ x ∈ Finset.range 99500, F (299500 + x) := by
  rw [Fin.sum_univ_eq_sum_range F 399000, show 399000 = 100000 + 100000 + 99500 + 99500 from rfl, Finset.sum_range_add, Finset.sum_range_add,
    Finset.sum_range_add]

theorem sum_dst (G : ℕ → EReal) (n : ℕ) (hn : n < 100000) : (∑ e : Fin 399000, if eDst e = n then G e else 0)
    = G (leftOf n) + G (100000 + n) + (if 500 ≤ n then G (199500 + n) else 0) + if n < 99500 then G (299500 + n) else 0 := by
  rw [sum_edges fun e => if eDst e = n then G e else 0,
    sum_range_one _ _ True (leftOf n) (fun x hx => by unfold eDst rightOf leftOf; rw [if_pos hx, true_and]; omega) (fun _ => by unfold leftOf; omega) G,
    sum_range_one _ _ True n (fun x hx => by unfold eDst; rw [if_neg (by omega), if_pos (by omega), true_and]; omega) (fun _ => hn) (fun x => G (100000 + x)),
    sum_range_one _ _ (500 ≤ n) (n - 500) (fun x hx => by unfold eDst; rw [if_neg (by omega), if_neg (by omega), if_pos (by omega)]; omega)
      (fun _ => by omega) (fun x => G (200000 + x)),
    sum_range_one _ _ (n < 99500) n (fun x hx => by unfold eDst; rw [if_neg (by omega), if_neg (by omega), if_neg (by omega)]; omega)
      (fun h => h) (fun x => G (299500 + x)), if_pos trivial, if_pos trivial]
  congr 2
  split
  · congr 1; omega
  · rfl

theorem sum_src (G : ℕ → EReal) (n : ℕ) (hn : n < 100000) : (∑ e : Fin 399000, if eSrc e = n then G e else 0)
    = G n + G (100000 + leftOf n) + (if n < 99500 then G (200000 + n) else 0) + if 500 ≤ n then G (299500 + (n - 500)) else 0 := by
  rw [sum_edges fun e => if eSrc e = n then G e else 0,
    sum_range_one _ _ True n (fun x hx => by unfold eSrc; rw [if_pos hx, true_and]) (fun _ => hn) G,
    sum_range_one _ _ True (leftOf n) (fun x hx => by unfold eSrc rightOf leftOf; rw [if_neg (by omega), if_pos (by omega), true_and]; omega)
      (fun _ => by unfold leftOf; omega) (fun x => G (100000 + x)),
    sum_range_one _ _ (n < 99500) n (fun x hx => by unfold eSrc; rw [if_neg (by omega), if_neg (by omega), if_pos (by omega)]; omega)
      (fun h => h) (fun x => G (200000 + x)),
    sum_range_one _ _ (500 ≤ n) (n - 500) (fun x hx => by unfold eSrc; rw [if_neg (by omega), if_neg (by omega), if_neg (by omega)]; omega)
      (fun _ => by omega) (fun x => G (299500 + x)), if_pos trivial, if_pos trivial]

/-- Every vertex has its row's number of edges. -/
theorem deg_sum (n : ℕ) (hn : n < 100000) : (∑ e : Fin 399000, if eSrc e = n then (1 : EReal) else 0) = (degZ ((n / 500 : ℕ) : ℤ) : EReal) := by
  rw [sum_src (fun _ => 1) n hn]
  unfold degZ
  split_ifs <;> first | omega | (norm_cast <;> norm_num)

/-- The weight of an edge. -/
def wE (e : ℕ) : ℝ := -1 / √(degZ ((eSrc e / 500 : ℕ) : ℤ) * degZ ((eDst e / 500 : ℕ) : ℤ))

/-- Adding up what the edges carry to one vertex gives the Laplacian there. -/
theorem spmm_sum (X : ℕ → EReal) (Z : ℤ → ℕ → EReal) (hX : ∀ v < 100000, X v = Z ((v / 500 : ℕ) : ℤ) (v % 500)) (n : ℕ) (hn : n < 100000) :
    (∑ e : Fin 399000, if eDst e = n then (wE e : EReal) * X (eSrc e) else 0) = lapE Z ((n / 500 : ℕ) : ℤ) (n % 500) := by
  have same : ∀ z : ℤ, -1 / √(degZ z * degZ z) = wH z := fun z => by unfold wH; rw [Real.sqrt_mul_self (degZ_pos z).le]
  have e1 : eSrc (leftOf n) = leftOf n ∧ eDst (leftOf n) = n := by
    have : leftOf n < 100000 := by unfold leftOf; omega
    exact ⟨by unfold eSrc; rw [if_pos this], by unfold eDst; rw [if_pos this]; unfold rightOf leftOf; omega⟩
  have e2 : eSrc (100000 + n) = rightOf n ∧ eDst (100000 + n) = n := by
    unfold eSrc eDst; rw [if_neg (by omega), if_pos (by omega), if_neg (by omega), if_pos (by omega)]
    rw [Nat.add_sub_cancel_left]; exact ⟨rfl, rfl⟩
  have w1 : wE (leftOf n) = wH ((n / 500 : ℕ) : ℤ) := by
    unfold wE; rw [e1.1, e1.2, show leftOf n / 500 = n / 500 by unfold leftOf; omega, same]
  have w2 : wE (100000 + n) = wH ((n / 500 : ℕ) : ℤ) := by
    unfold wE; rw [e2.1, e2.2, show rightOf n / 500 = n / 500 by unfold rightOf; omega, same]
  have x1 : X (leftOf n) = Z ((n / 500 : ℕ) : ℤ) ((n % 500 + 499) % 500) := by
    rw [hX _ (by unfold leftOf; omega)]; rw [show leftOf n / 500 = n / 500 by unfold leftOf; omega, show leftOf n % 500 = (n % 500 + 499) % 500 by unfold leftOf; omega]
  have x2 : X (rightOf n) = Z ((n / 500 : ℕ) : ℤ) ((n % 500 + 1) % 500) := by
    rw [hX _ (by unfold rightOf; omega)]; rw [show rightOf n / 500 = n / 500 by unfold rightOf; omega, show rightOf n % 500 = (n % 500 + 1) % 500 by unfold rightOf; omega]
  have x3 : (if 500 ≤ n then (wE (199500 + n) : EReal) * X (eSrc (199500 + n)) else 0)
      = (wU ((n / 500 : ℕ) : ℤ) : EReal) * Z ((n / 500 : ℕ) - 1) (n % 500) := by
    split
    · rename_i h
      have s : eSrc (199500 + n) = n - 500 := by unfold eSrc; rw [if_neg (by omega), if_neg (by omega), if_pos (by omega)]; omega
      have d : eDst (199500 + n) = n := by unfold eDst; rw [if_neg (by omega), if_neg (by omega), if_pos (by omega)]; omega
      have r : (((n - 500) / 500 : ℕ) : ℤ) = ((n / 500 : ℕ) : ℤ) - 1 := by omega
      unfold wE wU
      rw [s, d, r, if_pos (by omega), hX _ (by omega), r, show (n - 500) % 500 = n % 500 by omega]
    · unfold wU; rw [if_neg (by omega), EReal.coe_zero, zero_mul]
  have x4 : (if n < 99500 then (wE (299500 + n) : EReal) * X (eSrc (299500 + n)) else 0)
      = (wD ((n / 500 : ℕ) : ℤ) : EReal) * Z ((n / 500 : ℕ) + 1) (n % 500) := by
    split
    · rename_i h
      have s : eSrc (299500 + n) = n + 500 := by unfold eSrc; rw [if_neg (by omega), if_neg (by omega), if_neg (by omega)]; omega
      have d : eDst (299500 + n) = n := by unfold eDst; rw [if_neg (by omega), if_neg (by omega), if_neg (by omega)]; omega
      have r : (((n + 500) / 500 : ℕ) : ℤ) = ((n / 500 : ℕ) : ℤ) + 1 := by omega
      unfold wE wD
      rw [s, d, r, if_pos (by omega), hX _ (by omega), r, show (n + 500) % 500 = n % 500 by omega, mul_comm (degZ _)]
    · unfold wD; rw [if_neg (by omega), EReal.coe_zero, zero_mul]
  rw [sum_dst (fun e => (wE e : EReal) * X (eSrc e)) n hn]
  rw [x3, x4, e1.1, e2.1, w1, w2, x1, x2]
  rfl

end

end Cert.Cheb
-- ==== Proof.Lap.lean ====
module

public import proofs.«01_k».proof.Proof.Spec
public import Idealize.ShloMosaic.Lib.Pointwise.IndexVar
public import Idealize.ShloMosaic.PureOps.Ideal.Laws
public import Idealize.ShloMosaic.Lib.Tactic.WordOmega

@[expose] public section

open Idealize.ShloMosaic

namespace Cert.Cheb

noncomputable section

/-- A box of 4 batches, `m` rows, 500 columns and `f` features. -/
abbrev B4 (m f : ℕ) : Shape := ⟨4, ![4, m, 500, f]⟩
/-- The same box with `k` columns. -/
abbrev C4 (m k f : ℕ) : Shape := ⟨4, ![4, m, k, f]⟩
/-- A vector of `m` row entries, and the box it is cast to. -/
abbrev R1 (m : ℕ) : Shape := ⟨1, ![m]⟩
abbrev R4 (m : ℕ) : Shape := ⟨4, ![1, m, 1, 1]⟩

/-- The cyclic sum of the two column neighbours, as the kernel writes it. -/
def lonV (m f : ℕ) (c : FVec Ideal (B4 m f) .bf16)
    (h499 : (B4 m f).Slices ![0, 0, 499, 0] (C4 m 1 f)) (h0 : (B4 m f).Slices ![0, 0, 0, 0] (C4 m 499 f))
    (h1 : (B4 m f).Slices ![0, 0, 1, 0] (C4 m 499 f)) (h00 : (B4 m f).Slices ![0, 0, 0, 0] (C4 m 1 f))
    (hl : Shape.Concatenates [C4 m 1 f, C4 m 499 f] (B4 m f) 2) (hr : Shape.Concatenates [C4 m 499 f, C4 m 1 f] (B4 m f) 2) :
    FVec Ideal (B4 m f) .bf16 :=
  addf (concatenate (B4 m f) 2 [⟨C4 m 1 f, extractStridedSlice (C4 m 1 f) ![0, 0, 499, 0] c h499⟩,
      ⟨C4 m 499 f, extractStridedSlice (C4 m 499 f) ![0, 0, 0, 0] c h0⟩] hl)
    (concatenate (B4 m f) 2 [⟨C4 m 499 f, extractStridedSlice (C4 m 499 f) ![0, 0, 1, 0] c h1⟩,
      ⟨C4 m 1 f, extractStridedSlice (C4 m 1 f) ![0, 0, 0, 0] c h00⟩] hr)

set_option maxRecDepth 16384 in
theorem lonV_apply (m f : ℕ) (c : FVec Ideal (B4 m f) .bf16) (h499 h0 h1 h00 hl hr)
    (b : Fin 4) (r : Fin m) (q : Fin 500) (k : Fin f) :
    lonV m f c h499 h0 h1 h00 hl hr (ix4 b r q k)
      = c (ix4 b r ⟨(q.val + 499) % 500, by omega⟩ k) + c (ix4 b r ⟨(q.val + 1) % 500, by omega⟩ k) := by
  pointwise [lonV]
  congr 1
  · split
    · rename_i h; congr 2; apply Fin.ext; simp only; omega
    · rename_i h; congr 2; apply Fin.ext; simp only; omega
  · split
    · rename_i h; congr 2; apply Fin.ext; simp only; omega
    · rename_i h; congr 2; apply Fin.ext; simp only; omega

/-- The degree of each row's vertices, from the row numbers. -/
def degV {s : Shape} (g : IVec s 32) : FVec Ideal s .f32 :=
  select (ori (cmpi .eq g (broadcast s 0#32)) (cmpi .eq g (broadcast s 199#32)))
    (broadcast s (Scalar.ofBits (F := Ideal) .f32 0x40400000#32)) (broadcast s (Scalar.ofBits (F := Ideal) .f32 0x40800000#32))

/-- The weight of the two edges along a row. -/
def whV {s : Shape} (g : IVec s 32) (hb : FTy.bf16.bits < FTy.f32.bits) : FVec Ideal s .bf16 :=
  truncf .bf16 (divf (broadcast s (Scalar.ofBits (F := Ideal) .f32 0xBF800000#32)) (degV g)) hb

/-- The weight of the edge from the row above. -/
def wuV {s : Shape} (g : IVec s 32) (hb : FTy.bf16.bits < FTy.f32.bits) : FVec Ideal s .bf16 :=
  truncf .bf16 (select (andi (cmpi .sge g (broadcast s 1#32)) (cmpi .sle g (broadcast s 199#32)))
    (divf (broadcast s (Scalar.ofBits (F := Ideal) .f32 0xBF800000#32)) (sqrt (mulf (degV (subi g (broadcast s 1#32))) (degV g))))
    (broadcast s (Scalar.ofBits (F := Ideal) .f32 0x00000000#32))) hb

/-- The weight of the edge from the row below. -/
def wdV {s : Shape} (g : IVec s 32) (hb : FTy.bf16.bits < FTy.f32.bits) : FVec Ideal s .bf16 :=
  truncf .bf16 (select (andi (cmpi .sge g (broadcast s 0#32)) (cmpi .sle g (broadcast s 198#32)))
    (divf (broadcast s (Scalar.ofBits (F := Ideal) .f32 0xBF800000#32)) (sqrt (mulf (degV g) (degV (addi g (broadcast s 1#32))))))
    (broadcast s (Scalar.ofBits (F := Ideal) .f32 0x00000000#32))) hb

/-! ## The weights at a row number -/

theorem ofBits_three : Ideal.ofBits .f32 0x40400000#32 = ((3 : ℝ) : EReal) := by simp [Ideal.ofBits, Ideal.ieee, -EReal.coe_mul]; norm_num
theorem ofBits_four : Ideal.ofBits .f32 0x40800000#32 = ((4 : ℝ) : EReal) := by simp [Ideal.ofBits, Ideal.ieee, -EReal.coe_mul]; norm_num
theorem ofBits_neg_one : Ideal.ofBits .f32 0xBF800000#32 = ((-1 : ℝ) : EReal) := by simp [Ideal.ofBits, Ideal.ieee, -EReal.coe_mul]; norm_num
theorem ofBits_two_bf16 : Ideal.ofBits .bf16 0x4000#16 = (2 : EReal) := by
  rw [show (2 : EReal) = ((2 : ℝ) : EReal) from rfl]; simp [Ideal.ofBits, Ideal.ieee, -EReal.coe_mul]; norm_num

/-- A one-bit choice by a decided proposition. -/
theorem select_ofBool {α : Type} (p : Prop) [Decidable p] (c : BitVec 1) (h : c = 1#1 ↔ p) (x y : α) :
    Scalar.select c x y = if p then x else y := by
  unfold Scalar.select
  by_cases hp : p
  · simp [h.2 hp, hp]
  · have : c ≠ 1#1 := fun e => hp (h.1 e)
    simp [this, hp]

theorem deg_apply {s : Shape} (g : IVec s 32) (j : s.Idx) (z : ℤ) (hz : (g j).toInt = z) : degV g j = (degZ z : EReal) := by
  pointwise [degV]
  rw [ofBits_three, ofBits_four, select_ofBool (z = 0 ∨ z = 199)]
  · unfold degZ; split <;> rfl
  · word_omega

theorem div_neg_one {d : ℝ} (hd : 0 < d) : Ideal.div ((-1 : ℝ) : EReal) (d : EReal) = ((-1 / d : ℝ) : EReal) := by
  rw [Ideal.div_coe hd.ne', ← EReal.coe_mul]; congr 1; ring
theorem div_sqrt_neg_one {d : ℝ} (hd : 0 < d) : Ideal.div ((-1 : ℝ) : EReal) (Ideal.sqrt (d : EReal)) = ((-1 / √d : ℝ) : EReal) := by
  rw [Ideal.sqrt_coe, if_neg (not_lt.2 hd.le), div_neg_one (Real.sqrt_pos.2 hd)]

theorem wh_apply {s : Shape} (g : IVec s 32) (hb) (j : s.Idx) (z : ℤ) (hz : (g j).toInt = z) : whV g hb j = (wH z : EReal) := by
  have h := deg_apply g j z hz
  pointwise [whV]
  rw [h, ofBits_neg_one, div_neg_one (degZ_pos z)]; rfl

theorem wu_apply {s : Shape} (g : IVec s 32) (hb) (j : s.Idx) (z : ℤ) (hz : (g j).toInt = z) (hlo : -5 ≤ z) (hhi : z ≤ 1000) :
    wuV g hb j = (wU z : EReal) := by
  have h := deg_apply g j z hz
  have h' := deg_apply (subi g (broadcast s 1#32)) j (z - 1) (by show (g j - 1#32).toInt = _; word_omega)
  unfold wuV
  rw [truncf_apply]
  show FloatOps.truncf _ hb (Scalar.select _ (FloatOps.divf _ (FloatOps.sqrt (FloatOps.mulf (degV _ j) (degV _ j)))) _) = _
  rw [h, h']
  pointwise
  rw [ofBits_neg_one, select_ofBool (1 ≤ z ∧ z ≤ 199), ← EReal.coe_mul, div_sqrt_neg_one (mul_pos (degZ_pos _) (degZ_pos _))]
  · unfold wU; split <;> rfl
  · word_omega

theorem wd_apply {s : Shape} (g : IVec s 32) (hb) (j : s.Idx) (z : ℤ) (hz : (g j).toInt = z) (hlo : -5 ≤ z) (hhi : z ≤ 1000) :
    wdV g hb j = (wD z : EReal) := by
  have h := deg_apply g j z hz
  have h' := deg_apply (addi g (broadcast s 1#32)) j (z + 1) (by show (g j + 1#32).toInt = _; word_omega)
  unfold wdV
  rw [truncf_apply]
  show FloatOps.truncf _ hb (Scalar.select _ (FloatOps.divf _ (FloatOps.sqrt (FloatOps.mulf (degV _ j) (degV _ j)))) _) = _
  rw [h, h']
  pointwise
  rw [ofBits_neg_one, select_ofBool (0 ≤ z ∧ z ≤ 198), ← EReal.coe_mul, div_sqrt_neg_one (mul_pos (degZ_pos _) (degZ_pos _))]
  · unfold wD; split <;> rfl
  · word_omega

/-! ## The Laplacian of a box -/

/-- A row vector spread over a box. -/
def spreadV (m f : ℕ) (w : FVec Ideal (R1 m) .bf16) (hs : (R1 m).ShapeCasts (R4 m)) (hb : (R4 m).Broadcasts (B4 m f)) : FVec Ideal (B4 m f) .bf16 :=
  broadcastTo (B4 m f) (shapeCast (R4 m) w hs) hb

theorem spreadV_apply (m f : ℕ) (w : FVec Ideal (R1 m) .bf16) (hs hb) (b : Fin 4) (r : Fin m) (q : Fin 500) (k : Fin f) :
    spreadV m f w hs hb (ix4 b r q k) = w (ix1 r) := by
  pointwise [spreadV]
  congr 1
  apply Shape.reshapeEquiv_eq_of_rowMajor
  rw [rowMajor_val1, rowMajor_val4 _ m 1 1 (by simp) (by simp) (by simp)]
  have := r.isLt
  show r.val = 0 * m + (if h : m = 1 then (⟨0, by omega⟩ : Fin m) else r).val * 1 + 0 * 1 + 0
  split
  · show r.val = 0 * m + 0 * 1 + 0 * 1 + 0; omega
  · omega

/-- The row numbers of a box whose row 0 follows row `start`. -/
def rowsV (m : ℕ) (start : BitVec 32) (hi : (⟨2, ![1, m]⟩ : Shape).Iotas .tc 32 [1]) (hs : (⟨2, ![1, m]⟩ : Shape).ShapeCasts (R1 m)) : IVec (R1 m) 32 :=
  addi (addi (shapeCast (R1 m) (iota .tc ⟨2, ![1, m]⟩ 32 [1] hi) hs) (broadcast (R1 m) start)) (broadcast (R1 m) 1#32)

theorem rowsV_apply (m : ℕ) (start : BitVec 32) (hi hs) (r : Fin m) (z : ℤ) (hz : start.toInt = z) (hm : m ≤ 100) (hlo : -5 ≤ z) (hhi : z ≤ 800) :
    (rowsV m start hi hs (ix1 r)).toInt = z + r + 1 := by
  have hr := r.isLt
  have e : Shape.reshapeEquiv hs (ix1 r) = ix2 0 r := by
    apply Shape.reshapeEquiv_eq_of_rowMajor
    rw [rowMajor_val1, rowMajor_val2 _ m rfl]
    show 0 * m + r.val = r.val
    omega
  pointwise [rowsV]
  rw [e]
  show (IntOp.addi (IntOp.addi (BitVec.ofNat 32 r.val) start) 1#32).toInt = z + r.val + 1
  word_omega

/-- The Laplacian of rows 1 to `m` of a box of `M` rows, the row numbers in `g`. -/
def lapV (m M f : ℕ) (z : FVec Ideal (B4 M f) .bf16) (wh wu wd : FVec Ideal (R1 m) .bf16)
    (hz0 : (B4 M f).Slices ![0, 0, 0, 0] (B4 m f)) (hz1 : (B4 M f).Slices ![0, 1, 0, 0] (B4 m f)) (hz2 : (B4 M f).Slices ![0, 2, 0, 0] (B4 m f))
    (h499 : (B4 m f).Slices ![0, 0, 499, 0] (C4 m 1 f)) (h0 : (B4 m f).Slices ![0, 0, 0, 0] (C4 m 499 f))
    (h1 : (B4 m f).Slices ![0, 0, 1, 0] (C4 m 499 f)) (h00 : (B4 m f).Slices ![0, 0, 0, 0] (C4 m 1 f))
    (hl : Shape.Concatenates [C4 m 1 f, C4 m 499 f] (B4 m f) 2) (hr : Shape.Concatenates [C4 m 499 f, C4 m 1 f] (B4 m f) 2)
    (hs : (R1 m).ShapeCasts (R4 m)) (hb : (R4 m).Broadcasts (B4 m f)) : FVec Ideal (B4 m f) .bf16 :=
  addf (addf (mulf (spreadV m f wh hs hb) (lonV m f (extractStridedSlice (B4 m f) ![0, 1, 0, 0] z hz1) h499 h0 h1 h00 hl hr))
    (mulf (spreadV m f wu hs hb) (extractStridedSlice (B4 m f) ![0, 0, 0, 0] z hz0)))
    (mulf (spreadV m f wd hs hb) (extractStridedSlice (B4 m f) ![0, 2, 0, 0] z hz2))

theorem lapV_apply (m M f : ℕ) (z : FVec Ideal (B4 M f) .bf16) (wh wu wd : FVec Ideal (R1 m) .bf16) (hM : M = m + 2)
    (hz0 hz1 hz2 h499 h0 h1 h00 hl hr hs hb) (b : Fin 4) (r : Fin m) (q : Fin 500) (k : Fin f) :
    lapV m M f z wh wu wd hz0 hz1 hz2 h499 h0 h1 h00 hl hr hs hb (ix4 b r q k)
      = wh (ix1 r) * (z (ix4 b ⟨r.val + 1, by omega⟩ ⟨(q.val + 499) % 500, by omega⟩ k) + z (ix4 b ⟨r.val + 1, by omega⟩ ⟨(q.val + 1) % 500, by omega⟩ k))
        + wu (ix1 r) * z (ix4 b ⟨r.val, by omega⟩ q k) + wd (ix1 r) * z (ix4 b ⟨r.val + 2, by omega⟩ q k) := by
  pointwise [lapV]
  rw [spreadV_apply, spreadV_apply, spreadV_apply, lonV_apply]
  pointwise
  simp only [Nat.add_comm 1, Nat.add_comm 2]

/-- What the shapes of a Laplacian over `m` of `m + 2` rows must satisfy. -/
structure LapFacts (m f : ℕ) : Prop where
  z0 : (B4 (m + 2) f).Slices ![0, 0, 0, 0] (B4 m f)
  z1 : (B4 (m + 2) f).Slices ![0, 1, 0, 0] (B4 m f)
  z2 : (B4 (m + 2) f).Slices ![0, 2, 0, 0] (B4 m f)
  h499 : (B4 m f).Slices ![0, 0, 499, 0] (C4 m 1 f)
  h0 : (B4 m f).Slices ![0, 0, 0, 0] (C4 m 499 f)
  h1 : (B4 m f).Slices ![0, 0, 1, 0] (C4 m 499 f)
  h00 : (B4 m f).Slices ![0, 0, 0, 0] (C4 m 1 f)
  hl : Shape.Concatenates [C4 m 1 f, C4 m 499 f] (B4 m f) 2
  hr : Shape.Concatenates [C4 m 499 f, C4 m 1 f] (B4 m f) 2
  hs : (R1 m).ShapeCasts (R4 m)
  hb : (R4 m).Broadcasts (B4 m f)
  hi : (⟨2, ![1, m]⟩ : Shape).Iotas .tc 32 [1]
  hc : (⟨2, ![1, m]⟩ : Shape).ShapeCasts (R1 m)
  ht : FTy.bf16.bits < FTy.f32.bits

/-- The Laplacian of a box whose row 0 is row `start`, its weights computed from the row numbers. -/
def lapS (m f : ℕ) (h : LapFacts m f) (start : BitVec 32) (z : FVec Ideal (B4 (m + 2) f) .bf16) : FVec Ideal (B4 m f) .bf16 :=
  lapV m (m + 2) f z (whV (rowsV m start h.hi h.hc) h.ht) (wuV (rowsV m start h.hi h.hc) h.ht) (wdV (rowsV m start h.hi h.hc) h.ht)
    h.z0 h.z1 h.z2 h.h499 h.h0 h.h1 h.h00 h.hl h.hr h.hs h.hb

/-- On a box that holds the plane's rows wherever they exist, it gives the plane's Laplacian wherever its rows exist. -/
theorem lapS_spec (m f : ℕ) (h : LapFacts m f) (start : BitVec 32) (z : FVec Ideal (B4 (m + 2) f) .bf16) (base : ℤ)
    (hbase : start.toInt = base) (hm : m ≤ 100) (hlo : -5 ≤ base) (hhi : base ≤ 800) (Z : Fin 4 → ℕ → ℤ → ℕ → EReal)
    (hz : ∀ (b : Fin 4) (s : Fin (m + 2)) (q : Fin 500) (k : Fin f), 0 ≤ base + s → base + s ≤ 199 → z (ix4 b s q k) = Z b k (base + s) q)
    (b : Fin 4) (r : Fin m) (q : Fin 500) (k : Fin f) (h0 : 0 ≤ base + r + 1) (h1 : base + r + 1 ≤ 199) :
    lapS m f h start z (ix4 b r q k) = lap (Z b k) (base + r + 1) q := by
  have hr := r.isLt
  have hg := rowsV_apply m start h.hi h.hc r base hbase hm hlo hhi
  unfold lapS
  rw [lapV_apply _ _ _ _ _ _ _ rfl, wh_apply _ _ _ _ hg, wu_apply _ _ _ _ hg (by omega) (by omega), wd_apply _ _ _ _ hg (by omega) (by omega)]
  unfold lap
  rw [hz b _ _ k (by push_cast; omega) (by push_cast; omega), hz b _ _ k (by push_cast; omega) (by push_cast; omega)]
  have e0 : base + ((r.val + 1 : ℕ) : ℤ) = base + r + 1 := by push_cast; omega
  have eu : (wU (base + r + 1) : EReal) * z (ix4 b ⟨r.val, by omega⟩ q k) = (wU (base + r + 1) : EReal) * Z b k (base + r + 1 - 1) q := by
    by_cases hc : 1 ≤ base + r + 1
    · rw [hz b _ _ k (by push_cast; omega) (by push_cast; omega)]
      congr 2; push_cast; omega
    · rw [wU, if_neg (by omega), EReal.coe_zero, zero_mul, zero_mul]
  have ed : (wD (base + r + 1) : EReal) * z (ix4 b ⟨r.val + 2, by omega⟩ q k) = (wD (base + r + 1) : EReal) * Z b k (base + r + 1 + 1) q := by
    by_cases hc : base + r + 1 ≤ 198
    · rw [hz b _ _ k (by push_cast; omega) (by push_cast; omega)]
      congr 2; push_cast; omega
    · rw [wD, if_neg (by omega), EReal.coe_zero, zero_mul, zero_mul]
  rw [eu, ed]
  simp only [e0]

end

end Cert.Cheb
-- ==== Proof.Edges.lean ====
module

public import proofs.«01_k».proof.Proof.Graph
public import proofs.«01_k».proof.Proof.Lap
public import proofs.«01_k».proof.Proof.Gen.ReferenceIdeal.Read

@[expose] public section

set_option maxRecDepth 16384

open Idealize.ShloMosaic Cert.ReferenceIdeal Cert.ReferenceIdeal.Gen Cert.ReferenceIdeal.Read

namespace Cert.Cheb

noncomputable section

/-! # The reference's edge lists and weights -/

theorem vert_apply (n : Fin 100000) : val_main_v2 (F := Ideal) (ix1 n) = BitVec.ofNat 32 n.val := by
  rw [val_main_v2_apply, val_main_v1_apply, val_main_v0_apply]
  exact congrArg (BitVec.ofNat 32) (show n.val / 500 * 500 + n.val % 500 = n.val by omega)

theorem right_apply (n : Fin 100000) : val_main_v4 (F := Ideal) (ix1 n) = BitVec.ofNat 32 (rightOf n.val) := by
  rw [val_main_v4_apply]
  have e : ∀ (r : Fin 200) (q : Fin 500), val_main_v3 (F := Ideal) (ix2 r q) = BitVec.ofNat 32 (r.val * 500 + (q.val + 1) % 500) := by
    intro r q
    pointwise [val_main_v3]
    split
    · rename_i h
      rw [val_main_call0_v0_apply, val_main_v1_apply, val_main_v0_apply]
      exact congrArg (BitVec.ofNat 32) (show r.val * 500 + (1 + q.val) = _ by omega)
    · rename_i h
      rw [val_main_call0_v1_apply, val_main_v1_apply, val_main_v0_apply]
      exact congrArg (BitVec.ofNat 32) (show r.val * 500 + (q.val - 499) = _ by omega)
  have h0 : n.val / 500 < 200 := by omega
  have h1 : n.val % 500 < 500 := by omega
  exact (congrArg _ (funext fun a => by fin_cases a <;> rfl)).trans (e ⟨n.val / 500, h0⟩ ⟨n.val % 500, h1⟩)

theorem upper_apply (n : Fin 99500) : val_main_v6 (F := Ideal) (ix1 n) = BitVec.ofNat 32 n.val := by
  rw [val_main_v6_apply, val_main_v5_apply, val_main_v1_apply, val_main_v0_apply]
  exact congrArg (BitVec.ofNat 32) (show n.val / 500 * 500 + n.val % 500 = n.val by omega)

theorem lower_apply (n : Fin 99500) : val_main_v8 (F := Ideal) (ix1 n) = BitVec.ofNat 32 (n.val + 500) := by
  rw [val_main_v8_apply, val_main_v7_apply, val_main_v1_apply, val_main_v0_apply]
  exact congrArg (BitVec.ofNat 32) (show (1 + n.val / 500) * 500 + n.val % 500 = n.val + 500 by omega)

theorem src_apply (e : Fin 399000) : val_main_v9 (F := Ideal) (ix1 e) = BitVec.ofNat 32 (eSrc e) := by
  pointwise [val_main_v9]
  unfold eSrc
  simp only [vert_apply, right_apply, upper_apply, lower_apply]
  split_ifs <;> first | omega | exact congrArg (BitVec.ofNat 32) (by first | omega | (dsimp only; done) | (dsimp only; omega))

theorem dst_apply (e : Fin 399000) : val_main_v10 (F := Ideal) (ix1 e) = BitVec.ofNat 32 (eDst e) := by
  pointwise [val_main_v10]
  unfold eDst
  simp only [vert_apply, right_apply, upper_apply, lower_apply]
  split_ifs <;> first | omega | exact congrArg (BitVec.ofNat 32) (by first | omega | (dsimp only; done) | (dsimp only; omega))

/-- A list of vertices, wrapped as an index is and laid out as a column. -/
def wrapCol (x : IVec S399000 32) : IVec S399000x1 32 :=
  broadcastInDim S399000x1 ![0] bcast_S399000_S399000x1_0 (select (cmpi .slt x (val_main_v15 (F := Ideal))) (addi x (val_main_v17 (F := Ideal))) x)

theorem wrapCol_apply (x : IVec S399000 32) (e : Fin 399000) (v : ℕ) (hv : v < 2 ^ 31) (hx : x (ix1 e) = BitVec.ofNat 32 v) :
    wrapCol x (ix2 e 0) = BitVec.ofNat 32 v := by
  pointwise [wrapCol]
  show Scalar.select (IntOp.cmpi .slt (x (ix1 e)) 0#32) _ (x (ix1 e)) = _
  rw [hx]
  exact Routing.wrap_of_lt _ _ (by rw [BitVec.toNat_ofNat]; omega)

/-- A list laid out as a column. -/
theorem col_apply {α : Type} (x : S399000.Idx → α) (e : Fin 399000) : broadcastInDim S399000x1 ![0] bcast_S399000_S399000x1_0 x (ix2 e 0) = x (ix1 e) := by
  pointwise

theorem zerosV_apply (n : Fin 100000) : val_main_v12 (F := Ideal) (ix1 n) = 0 := by
  rw [val_main_v12_apply, val_main_cst_0_apply]; exact Ideal.ofBits_zero_f32
theorem onesV_apply (e : Fin 399000) : val_main_v11 (F := Ideal) (ix1 e) = 1 := by
  rw [val_main_v11_apply, val_main_cst_apply]; exact Ideal.ofBits_one_f32

theorem degR_apply (n : Fin 100000) : val_main_v14 (F := Ideal) (ix1 n) = (degZ ((n.val / 500 : ℕ) : ℤ) : EReal) := by
  have h := host_vecScatter_apply 100000 399000 scatter_S100000_S399000x1_S399000_n_0_0_1_wf (val_main_v12 (F := Ideal)) (val_main_v13 (F := Ideal))
    (val_main_v11 (F := Ideal)) eSrc (fun e => (col_apply _ e).trans (src_apply e)) (fun e => (eSrc_lt e.isLt).trans (by norm_num)) n
  simp only [zerosV_apply, onesV_apply, zero_add] at h
  rw [deg_sum n.val n.isLt] at h
  exact h

theorem weight_apply (e : Fin 399000) : val_main_v32 (F := Ideal) (ix1 e) = (wE e : EReal) := by
  have s := Routing.gather_take1 gather_S100000_S399000x1_S399000_n_0_n_n_0_1_1 rfl rfl rfl rfl (val_main_v14 (F := Ideal)) (wrapCol (val_main_v9 (F := Ideal)))
    e ⟨eSrc e, eSrc_lt e.isLt⟩ (wrapCol_apply _ e _ ((eSrc_lt e.isLt).trans (by norm_num)) (src_apply e)) (by norm_num)
  have d := Routing.gather_take1 gather_S100000_S399000x1_S399000_n_0_n_n_0_1_1 rfl rfl rfl rfl (val_main_v14 (F := Ideal)) (wrapCol (val_main_v10 (F := Ideal)))
    e ⟨eDst e, eDst_lt e.isLt⟩ (wrapCol_apply _ e _ ((eDst_lt e.isLt).trans (by norm_num)) (dst_apply e)) (by norm_num)
  have s' : val_main_v21 (F := Ideal) (ix1 e) = _ := s.trans (degR_apply _)
  have d' : val_main_v28 (F := Ideal) (ix1 e) = _ := d.trans (degR_apply _)
  rw [val_main_v32_apply, val_main_v31_apply, val_main_v30_apply, val_main_v29_apply, s', d']
  refine (congrArg₂ Ideal.div ofBits_neg_one (congrArg Ideal.sqrt (EReal.coe_mul _ _).symm)).trans ?_
  exact div_sqrt_neg_one (mul_pos (degZ_pos _) (degZ_pos _))

end

end Cert.Cheb
-- ==== Proof.Body.lean ====
module

public import proofs.«01_k».proof.Proof.Lap

@[expose] public section

open Idealize.ShloMosaic

namespace Cert.Cheb

noncomputable section

/-- A matrix of `m` rows and `n` columns. -/
abbrev M2 (m n : ℕ) : Shape := ⟨2, ![m, n]⟩

/-- What the shapes of the three products must satisfy. -/
structure DotFacts (f o : ℕ) : Prop where
  x : (B4 10 f).ShapeCasts (M2 20000 f)
  w : (M2 f o).ShapeCasts (M2 f o)
  y : (M2 20000 o).ShapeCasts (B4 10 o)
  wf : DotDims.WF (M2 20000 f) (M2 f o) (M2 20000 o) [1] [0] [0] [1] [] []
  s2 : (B4 14 f).Slices ![0, 2, 0, 0] (B4 10 f)

/-- The contraction of the features. -/
def dotD (f o : ℕ) (h : DotFacts f o) : DotDims (M2 20000 f) (M2 f o) (M2 20000 o) where
  lhsContracting := [1]
  rhsContracting := [0]
  lhsNonContracting := [0]
  rhsNonContracting := [1]
  lhsBatch := []
  rhsBatch := []
  wf := h.wf

/-- One Chebyshev term of a block times its rows of the weight matrix. -/
def termV (f o : ℕ) (h : DotFacts f o) (x : FVec Ideal (B4 10 f) .bf16) (w : FVec Ideal (M2 f o) .bf16) : FVec Ideal (M2 20000 o) .f32 :=
  matmul (F := Ideal) (dotD f o h) none (shapeCast (M2 20000 f) x h.x) (shapeCast (M2 f o) w h.w) (constant (M2 20000 o) .f32 0x00000000#32)

/-- The row of a block's flattening that holds batch `b`, row `r` and column `q`. -/
def flat (b : Fin 4) (r : Fin 10) (q : Fin 500) : Fin 20000 := ⟨(b.val * 10 + r.val) * 500 + q.val, by omega⟩

/-- The flattening of a block, read at one row. -/
theorem flat_apply (f : ℕ) (x : (B4 10 f).Idx → EReal) (hs : (B4 10 f).ShapeCasts (M2 20000 f)) (b : Fin 4) (r : Fin 10) (q : Fin 500) (k : Fin f) :
    x (Shape.reshapeEquiv hs (ix2 (flat b r q) k)) = x (ix4 b r q k) := by
  congr 1
  apply Shape.reshapeEquiv_eq_of_rowMajor
  rw [rowMajor_val2 _ f rfl, rowMajor_val4 _ (10 * (500 * f)) (500 * f) f (by simp) (by simp) (by simp)]
  show b.val * (10 * (500 * f)) + r.val * (500 * f) + q.val * f + k.val = ((b.val * 10 + r.val) * 500 + q.val) * f + k.val
  ring

theorem termV_apply (f o : ℕ) (h : DotFacts f o) (x : FVec Ideal (B4 10 f) .bf16) (w : FVec Ideal (M2 f o) .bf16)
    (b : Fin 4) (r : Fin 10) (q : Fin 500) (p : Fin o) :
    termV f o h x w (ix2 (flat b r q) p) = ∑ k : Fin f, x (ix4 b r q k) * w (ix2 k p) := by
  pointwise [termV, dotD]
  rw [Ideal.matmul_apply₁_of _ (a := 1) rfl (K := f) rfl _ _ _ _ (fun k => ix2 (flat b r q) k) (fun k => ix2 k p)]
  · pointwise
    simp only [flat_apply]
  · intro k; funext a; fin_cases a <;> rfl
  · intro k; funext a; fin_cases a <;> rfl

/-- The convolution of a block of 14 rows, row 0 being row `word`. -/
def convV (f o : ℕ) (h12 : LapFacts 12 f) (h10 : LapFacts 10 f) (h : DotFacts f o) (word : BitVec 32) (x : FVec Ideal (B4 14 f) .bf16)
    (w0 w1 w2 : FVec Ideal (M2 f o) .bf16) : FVec Ideal (M2 20000 o) .f32 :=
  addf (addf (termV f o h (extractStridedSlice (B4 10 f) ![0, 2, 0, 0] x h.s2) w0)
      (termV f o h (extractStridedSlice (B4 10 f) ![0, 1, 0, 0] (lapS 12 f h12 word x) h10.z1) w1))
    (termV f o h (subf (mulf (broadcast (B4 10 f) (Scalar.ofBits (F := Ideal) .bf16 0x4000#16)) (lapS 10 f h10 (Scalar.addi word 1#32) (lapS 12 f h12 word x)))
      (extractStridedSlice (B4 10 f) ![0, 2, 0, 0] x h.s2)) w2)

/-- On a block that holds the planes' rows wherever they exist, it gives the planes' convolution. -/
theorem convV_spec (f o : ℕ) (h12 : LapFacts 12 f) (h10 : LapFacts 10 f) (h : DotFacts f o) (word : BitVec 32) (x : FVec Ideal (B4 14 f) .bf16)
    (w0 w1 w2 : FVec Ideal (M2 f o) .bf16) (base : ℤ) (hw : word.toInt = base) (hlo : -2 ≤ base) (hhi : base ≤ 188)
    (Z : Fin 4 → ℕ → ℤ → ℕ → EReal) (W : ℕ → ℕ → EReal)
    (hx : ∀ (b : Fin 4) (s : Fin 14) (q : Fin 500) (k : Fin f), 0 ≤ base + s → base + s ≤ 199 → x (ix4 b s q k) = Z b k (base + s) q)
    (h0 : ∀ (k : Fin f) (p : Fin o), w0 (ix2 k p) = W k p) (h1 : ∀ (k : Fin f) (p : Fin o), w1 (ix2 k p) = W (f + k) p)
    (h2 : ∀ (k : Fin f) (p : Fin o), w2 (ix2 k p) = W (2 * f + k) p) (b : Fin 4) (r : Fin 10) (q : Fin 500) (p : Fin o) :
    convV f o h12 h10 h word x w0 w1 w2 (ix2 (flat b r q) p) = conv f W (Z b) p (base + 2 + r) q := by
  have hr := r.isLt
  have t1 := lapS_spec 12 f h12 word x base hw (by norm_num) (by omega) (by omega) Z hx
  have hw1 : (Scalar.addi word 1#32).toInt = base + 1 := by
    show (word + 1#32).toInt = _
    word_omega
  have t2 := lapS_spec 10 f h10 (Scalar.addi word 1#32) (lapS 12 f h12 word x) (base + 1) hw1 (by norm_num) (by omega) (by omega)
    (fun b k => lap (Z b k)) (fun b s q k ha hb => by
      have := t1 b s q k (by omega) (by omega)
      rw [this]; congr 1; ring)
  have e0 : base + ((r.val + 2 : ℕ) : ℤ) = base + 2 + r := by push_cast; ring
  have e1 : base + ((r.val + 1 : ℕ) : ℤ) + 1 = base + 2 + r := by push_cast; ring
  have e2 : base + 1 + (r : ℤ) + 1 = base + 2 + r := by ring
  have x0 : ∀ k : Fin f, x (ix4 b ⟨r.val + 2, by omega⟩ q k) = Z b k (base + 2 + r) q := fun k => by
    rw [hx b _ q k (by push_cast; omega) (by push_cast; omega)]; simp only [e0]
  have x1 : ∀ k : Fin f, lapS 12 f h12 word x (ix4 b ⟨r.val + 1, by omega⟩ q k) = lap (Z b k) (base + 2 + r) q := fun k => by
    rw [t1 b _ q k (by push_cast; omega) (by push_cast; omega)]; simp only [e1]
  have x2 : ∀ k : Fin f, lapS 10 f h10 (Scalar.addi word 1#32) (lapS 12 f h12 word x) (ix4 b r q k) = lap (lap (Z b k)) (base + 2 + r) q := fun k => by
    rw [t2 b r q k (by omega) (by omega), e2]
  unfold convV conv cheb2
  rw [addf_apply, addf_apply, termV_apply, termV_apply, termV_apply]
  pointwise
  simp only [h0, h1, h2]
  simp only [x2, ofBits_two_bf16, Nat.add_comm 1, Nat.add_comm 2, x0, x1]

/-- The activation, as the kernel writes it. -/
def eluV {s : Shape} (a : FVec Ideal s .f32) : FVec Ideal s .f32 :=
  select (cmpf .ogt a (broadcast s (Scalar.ofBits (F := Ideal) .f32 0x00000000#32))) a
    (subf (exp (minimumf a (broadcast s (Scalar.ofBits (F := Ideal) .f32 0x00000000#32)))) (broadcast s (Scalar.ofBits (F := Ideal) .f32 0x3F800000#32)))

theorem eluV_apply {s : Shape} (a : FVec Ideal s .f32) (j : s.Idx) : eluV a j = elu (a j) := by
  pointwise [eluV]
  rfl

/-- A flattened block as a box. -/
theorem unflat_apply (f : ℕ) (x : (M2 20000 f).Idx → EReal) (hs : (M2 20000 f).ShapeCasts (B4 10 f)) (b : Fin 4) (r : Fin 10) (q : Fin 500) (k : Fin f) :
    x (Shape.reshapeEquiv hs (ix4 b r q k)) = x (ix2 (flat b r q) k) := by
  congr 1
  apply Shape.reshapeEquiv_eq_of_rowMajor
  rw [rowMajor_val2 _ f rfl, rowMajor_val4 _ (10 * (500 * f)) (500 * f) f (by simp) (by simp) (by simp)]
  show ((b.val * 10 + r.val) * 500 + q.val) * f + k.val = b.val * (10 * (500 * f)) + r.val * (500 * f) + q.val * f + k.val
  ring

/-- What the shapes of a block's three pieces must satisfy. -/
structure JoinFacts (f : ℕ) : Prop where
  s2 : (B4 2 f).ShapeCasts (B4 2 f)
  s10 : (B4 10 f).ShapeCasts (B4 10 f)
  c : Shape.Concatenates [B4 2 f, B4 10 f, B4 2 f] (B4 14 f) 1

/-- A block with two rows above and two below. -/
def joinV (f : ℕ) {ty : FTy} (h : JoinFacts f) (a : FVec Ideal (B4 2 f) ty) (c : FVec Ideal (B4 10 f) ty) (d : FVec Ideal (B4 2 f) ty) : FVec Ideal (B4 14 f) ty :=
  concatenate (B4 14 f) 1 [⟨B4 2 f, shapeCast (B4 2 f) a h.s2⟩, ⟨B4 10 f, shapeCast (B4 10 f) c h.s10⟩, ⟨B4 2 f, shapeCast (B4 2 f) d h.s2⟩] h.c

theorem joinV_apply (f : ℕ) {ty : FTy} (h : JoinFacts f) (a : FVec Ideal (B4 2 f) ty) (c : FVec Ideal (B4 10 f) ty) (d : FVec Ideal (B4 2 f) ty)
    (b : Fin 4) (s : Fin 14) (q : Fin 500) (k : Fin f) :
    joinV f h a c d (ix4 b s q k) = if h : s.val < 2 then a (ix4 b ⟨s.val, h⟩ q k) else
      if h' : s.val - 2 < 10 then c (ix4 b ⟨s.val - 2, h'⟩ q k) else d (ix4 b ⟨s.val - 2 - 10, by omega⟩ q k) := by
  pointwise [joinV]

/-- The row word of grid point `i`. -/
def wordV (i : ℕ) : BitVec 32 := Scalar.subi (Scalar.muli (BitVec.ofNat 32 i) 10#32) 2#32

theorem wordV_toInt (i : ℕ) (hi : i < 20) : (wordV i).toInt = 10 * (i : ℤ) - 2 := by
  show (BitVec.ofNat 32 i * 10#32 - 2#32).toInt = _
  word_omega

/-- The pieces that grid point `i` reads hold the planes' rows wherever they exist. -/
theorem joinV_spec (f : ℕ) {ty : FTy} (h : JoinFacts f) (a : FVec Ideal (B4 2 f) ty) (c : FVec Ideal (B4 10 f) ty) (d : FVec Ideal (B4 2 f) ty)
    (i : ℕ) (hi : i < 20) (Z : Fin 4 → ℕ → ℤ → ℕ → EReal)
    (ha : ∀ (b : Fin 4) (s : Fin 2) (q : Fin 500) (k : Fin f), a (ix4 b s q k) = Z b k ((2 * (5 * i - 1) + s.val : ℕ) : ℤ) q)
    (hc : ∀ (b : Fin 4) (s : Fin 10) (q : Fin 500) (k : Fin f), c (ix4 b s q k) = Z b k ((10 * i + s.val : ℕ) : ℤ) q)
    (hd : ∀ (b : Fin 4) (s : Fin 2) (q : Fin 500) (k : Fin f), d (ix4 b s q k) = Z b k ((2 * (min (5 * i + 5) 99) + s.val : ℕ) : ℤ) q)
    (b : Fin 4) (s : Fin 14) (q : Fin 500) (k : Fin f) (h0 : 0 ≤ 10 * (i : ℤ) - 2 + s) (h1 : 10 * (i : ℤ) - 2 + s ≤ 199) :
    joinV f h a c d (ix4 b s q k) = Z b k (10 * (i : ℤ) - 2 + s) q := by
  rw [joinV_apply]
  split_ifs with h2 h3
  · rw [ha]; congr 1; simp only; omega
  · rw [hc]; congr 1; simp only; omega
  · rw [hd]; congr 1; simp only; omega

/-- What grid point `i` of a hidden layer stores. -/
def hidV (f o : ℕ) (h12 : LapFacts 12 f) (h10 : LapFacts 10 f) (h : DotFacts f o) (i : ℕ) (x : FVec Ideal (B4 14 f) .bf16)
    (w0 w1 w2 : FVec Ideal (M2 f o) .bf16) : FVec Ideal (B4 10 o) .bf16 :=
  truncf .bf16 (shapeCast (B4 10 o) (eluV (convV f o h12 h10 h (wordV i) x w0 w1 w2)) h.y) h10.ht

/-- What grid point `i` of the last layer stores. -/
def lastV (f o : ℕ) (h12 : LapFacts 12 f) (h10 : LapFacts 10 f) (h : DotFacts f o) (i : ℕ) (x : FVec Ideal (B4 14 f) .bf16)
    (w0 w1 w2 : FVec Ideal (M2 f o) .bf16) : FVec Ideal (B4 10 o) .f32 :=
  shapeCast (B4 10 o) (convV f o h12 h10 h (wordV i) x w0 w1 w2) h.y

theorem hidV_spec (f o : ℕ) (h12 : LapFacts 12 f) (h10 : LapFacts 10 f) (h : DotFacts f o) (i : ℕ) (hi : i < 20) (x : FVec Ideal (B4 14 f) .bf16)
    (w0 w1 w2 : FVec Ideal (M2 f o) .bf16) (Z : Fin 4 → ℕ → ℤ → ℕ → EReal) (W : ℕ → ℕ → EReal)
    (hx : ∀ (b : Fin 4) (s : Fin 14) (q : Fin 500) (k : Fin f), 0 ≤ 10 * (i : ℤ) - 2 + s → 10 * (i : ℤ) - 2 + s ≤ 199 →
      x (ix4 b s q k) = Z b k (10 * (i : ℤ) - 2 + s) q)
    (h0 : ∀ (k : Fin f) (p : Fin o), w0 (ix2 k p) = W k p) (h1 : ∀ (k : Fin f) (p : Fin o), w1 (ix2 k p) = W (f + k) p)
    (h2 : ∀ (k : Fin f) (p : Fin o), w2 (ix2 k p) = W (2 * f + k) p) (b : Fin 4) (r : Fin 10) (q : Fin 500) (p : Fin o) :
    hidV f o h12 h10 h i x w0 w1 w2 (ix4 b r q p) = layer f W (Z b) p ((10 * i + r.val : ℕ) : ℤ) q := by
  unfold hidV
  pointwise
  rw [unflat_apply o (eluV (convV f o h12 h10 h (wordV i) x w0 w1 w2)), eluV_apply, convV_spec f o h12 h10 h _ x w0 w1 w2 _ (wordV_toInt i hi) (by omega) (by omega) Z W hx h0 h1 h2]
  unfold layer
  congr 2
  push_cast; ring

theorem lastV_spec (f o : ℕ) (h12 : LapFacts 12 f) (h10 : LapFacts 10 f) (h : DotFacts f o) (i : ℕ) (hi : i < 20) (x : FVec Ideal (B4 14 f) .bf16)
    (w0 w1 w2 : FVec Ideal (M2 f o) .bf16) (Z : Fin 4 → ℕ → ℤ → ℕ → EReal) (W : ℕ → ℕ → EReal)
    (hx : ∀ (b : Fin 4) (s : Fin 14) (q : Fin 500) (k : Fin f), 0 ≤ 10 * (i : ℤ) - 2 + s → 10 * (i : ℤ) - 2 + s ≤ 199 →
      x (ix4 b s q k) = Z b k (10 * (i : ℤ) - 2 + s) q)
    (h0 : ∀ (k : Fin f) (p : Fin o), w0 (ix2 k p) = W k p) (h1 : ∀ (k : Fin f) (p : Fin o), w1 (ix2 k p) = W (f + k) p)
    (h2 : ∀ (k : Fin f) (p : Fin o), w2 (ix2 k p) = W (2 * f + k) p) (b : Fin 4) (r : Fin 10) (q : Fin 500) (p : Fin o) :
    lastV f o h12 h10 h i x w0 w1 w2 (ix4 b r q p) = conv f W (Z b) p ((10 * i + r.val : ℕ) : ℤ) q := by
  unfold lastV
  pointwise
  rw [unflat_apply o (convV f o h12 h10 h (wordV i) x w0 w1 w2), convV_spec f o h12 h10 h _ x w0 w1 w2 _ (wordV_toInt i hi) (by omega) (by omega) Z W hx h0 h1 h2]
  congr 1
  push_cast; ring

end

end Cert.Cheb
-- ==== Proof.Ref.lean ====
module

public import proofs.«01_k».proof.Proof.Edges
public import proofs.«01_k».proof.Proof.Body

@[expose] public section

set_option maxRecDepth 16384

open Idealize.ShloMosaic Cert.ReferenceIdeal Cert.ReferenceIdeal.Gen Cert.ReferenceIdeal.Read

namespace Cert.Cheb

noncomputable section

/-! # One layer of the reference -/

abbrev X3 (f : ℕ) : Shape := ⟨3, ![4, 100000, f]⟩
abbrev T3 (f : ℕ) : Shape := ⟨3, ![100000, 4, f]⟩
abbrev U3 (m f : ℕ) : Shape := ⟨3, ![m, 100000, f]⟩
abbrev K4 (f : ℕ) : Shape := ⟨4, ![3, 100000, 4, f]⟩
abbrev V4 (f : ℕ) : Shape := ⟨4, ![4, 100000, 3, f]⟩

/-- What the shapes of one layer must satisfy. -/
structure RefFacts (f o : ℕ) : Prop where
  t : (X3 f).Transposes [1, 0, 2] (T3 f)
  s : (T3 f).ShapeCasts (M2 100000 (4 * f))
  bw : (M2 399000 1).BroadcastsInDim (M2 399000 (4 * f)) ![0, 1]
  bz : (⟨0, ![]⟩ : Shape).BroadcastsInDim (M2 100000 (4 * f)) ![]
  bu : (M2 100000 (4 * f)).BroadcastsInDim (U3 1 (4 * f)) ![1, 2]
  c : Shape.Concatenates [U3 1 (4 * f), U3 1 (4 * f), U3 1 (4 * f)] (U3 3 (4 * f)) 0
  s3 : (U3 3 (4 * f)).ShapeCasts (K4 f)
  t3 : (K4 f).Transposes [2, 1, 0, 3] (V4 f)
  s4 : (V4 f).ShapeCasts (X3 (3 * f))
  g : GatherDims.WF (M2 100000 (4 * f)) (M2 399000 1) (M2 399000 (4 * f)) [1] [0] [] [0] [] 1 ![1, 4 * f]
  sc : ScatterDims.WF (M2 100000 (4 * f)) (M2 399000 1) (M2 399000 (4 * f)) [1] [0] [0] 1
  d : DotDims.WF (X3 (3 * f)) (M2 (3 * f) o) (X3 o) [2] [0] [0, 1] [1] [] []

def rowGather (N n D : ℕ) (wf : GatherDims.WF (M2 N D) (M2 n 1) (M2 n D) [1] [0] [] [0] [] 1 ![1, D]) : GatherDims (M2 N D) (M2 n 1) (M2 n D) where
  offsetDims := [1]
  collapsedSliceDims := [0]
  operandBatchingDims := []
  startIndicesBatchingDims := []
  startIndexMap := [0]
  indexVectorDim := 1
  sliceSizes := ![1, D]
  wf := wf

/-- The sparse product with the Laplacian. -/
def spmmR (f o : ℕ) (h : RefFacts f o) (x : FVec Ideal (M2 100000 (4 * f)) .f32) : FVec Ideal (M2 100000 (4 * f)) .f32 :=
  Host.scatterAdd (rowScatter 100000 399000 (4 * f) h.sc) (broadcastInDim _ ![] h.bz (val_main_cst_7 (F := Ideal)))
    (val_main_v46 (F := Ideal))
    (mulf (broadcastInDim _ ![0, 1] h.bw (val_main_v35 (F := Ideal)))
      (Host.gather (rowGather 100000 399000 (4 * f) h.g) x (wrapCol (val_main_v9 (F := Ideal)))))

theorem spmmR_apply (f o : ℕ) (h : RefFacts f o) (x : FVec Ideal (M2 100000 (4 * f)) .f32) (c : Fin (4 * f)) (Z : ℤ → ℕ → EReal)
    (hx : ∀ n : Fin 100000, x (ix2 n c) = Z ((n.val / 500 : ℕ) : ℤ) (n.val % 500)) (n : Fin 100000) :
    spmmR f o h x (ix2 n c) = lapE Z ((n.val / 500 : ℕ) : ℤ) (n.val % 500) := by
  have g : ∀ e : Fin 399000, Host.gather (rowGather 100000 399000 (4 * f) h.g) x (wrapCol (val_main_v9 (F := Ideal))) (ix2 e c)
      = x (ix2 ⟨eSrc e, eSrc_lt e.isLt⟩ c) := fun e =>
    Routing.gather_row (rowGather 100000 399000 (4 * f) h.g) rfl rfl rfl rfl rfl x _ e c ⟨eSrc e, eSrc_lt e.isLt⟩
      (wrapCol_apply _ e _ ((eSrc_lt e.isLt).trans (by norm_num)) (src_apply e)) (by norm_num)
  have w : ∀ e : Fin 399000, broadcastInDim (M2 399000 (4 * f)) ![0, 1] h.bw (val_main_v35 (F := Ideal)) (ix2 e c) = (wE e : EReal) := fun e => by
    refine (broadcastInDim_apply _ h.bw _ _ (ix2 e 0) fun a => ?_).trans ((col_apply (val_main_v32 (F := Ideal)) e).trans (weight_apply e))
    match a with
    | ⟨0, _⟩ => exact (if_neg (by decide : ¬ (399000 : ℕ) = 1)).symm
    | ⟨1, _⟩ => exact (if_pos rfl).symm
  have z : broadcastInDim (M2 100000 (4 * f)) ![] h.bz (val_main_cst_7 (F := Ideal)) (ix2 n c) = 0 := by
    pointwise
    exact Ideal.ofBits_zero_f32
  have hd : ∀ e : Fin 399000, val_main_v46 (F := Ideal) (ix2 e 0) = BitVec.ofNat 32 (eDst e) := fun e => (col_apply _ e).trans (dst_apply e)
  have hl : ∀ e : Fin 399000, eDst e < 2 ^ 31 := fun e => (eDst_lt e.isLt).trans (by norm_num)
  unfold spmmR
  rw [host_rowScatter_apply 100000 399000 (4 * f) h.sc _ _ _ eDst hd hl, z, zero_add, ← spmm_sum (fun v => if hv : v < 100000 then x (ix2 ⟨v, hv⟩ c) else 0) Z (fun v hv => by rw [dif_pos hv]; exact hx ⟨v, hv⟩) n.val n.isLt]
  refine Finset.sum_congr rfl fun e _ => ?_
  rw [mulf_apply, g, w, dif_pos (eSrc_lt e.isLt)]
  rfl

/-- The column that holds batch `b` and feature `k`. -/
def colD {f : ℕ} (b : Fin 4) (k : Fin f) : Fin (4 * f) := ⟨b.val * f + k.val, by
  have hk := k.isLt
  calc b.val * f + k.val < b.val * f + f := by omega
    _ = (b.val + 1) * f := by ring
    _ ≤ 4 * f := Nat.mul_le_mul_right _ (by omega)⟩
/-- The column that holds term `j` and feature `k`. -/
def colK {f : ℕ} (j : Fin 3) (k : Fin f) : Fin (3 * f) := ⟨j.val * f + k.val, by
  have hk := k.isLt
  calc j.val * f + k.val < j.val * f + f := by omega
    _ = (j.val + 1) * f := by ring
    _ ≤ 3 * f := Nat.mul_le_mul_right _ (by omega)⟩

/-- The input with its vertices first, the batches side by side. -/
def flatR (f o : ℕ) (h : RefFacts f o) (x : FVec Ideal (X3 f) .f32) : FVec Ideal (M2 100000 (4 * f)) .f32 :=
  shapeCast (M2 100000 (4 * f)) (transpose (T3 f) [1, 0, 2] x h.t) h.s

theorem flatR_apply (f o : ℕ) (h : RefFacts f o) (x : FVec Ideal (X3 f) .f32) (n : Fin 100000) (b : Fin 4) (k : Fin f) :
    flatR f o h x (ix2 n (colD b k)) = x (ix3 b n k) := by
  unfold flatR
  rw [shapeCast_apply _ h.s _ (ix3 n b k)]
  · pointwise
  · rw [rowMajor_val2 _ (4 * f) rfl, rowMajor_val3 _ (4 * f) f rfl rfl]
    show n.val * (4 * f) + b.val * f + k.val = n.val * (4 * f) + (b.val * f + k.val)
    ring

/-- The three Chebyshev terms, side by side for every vertex. -/
def stackR (f o : ℕ) (h : RefFacts f o) (x0 x1 x2 : FVec Ideal (M2 100000 (4 * f)) .f32) : FVec Ideal (X3 (3 * f)) .f32 :=
  shapeCast (X3 (3 * f)) (transpose (V4 f) [2, 1, 0, 3] (shapeCast (K4 f) (concatenate (U3 3 (4 * f)) 0
    [⟨U3 1 (4 * f), broadcastInDim (U3 1 (4 * f)) ![1, 2] h.bu x0⟩, ⟨U3 1 (4 * f), broadcastInDim (U3 1 (4 * f)) ![1, 2] h.bu x1⟩,
      ⟨U3 1 (4 * f), broadcastInDim (U3 1 (4 * f)) ![1, 2] h.bu x2⟩] h.c) h.s3) h.t3) h.s4

theorem cat3_apply (D : ℕ) (h : Shape.Concatenates [U3 1 D, U3 1 D, U3 1 D] (U3 3 D) 0) (x0 x1 x2 : (U3 1 D).Idx → EReal) (j : Fin 3) (n : Fin 100000) (c : Fin D) :
    concatenate (U3 3 D) 0 [⟨U3 1 D, x0⟩, ⟨U3 1 D, x1⟩, ⟨U3 1 D, x2⟩] h (ix3 j n c) = ![x0, x1, x2] j (ix3 0 n c) := by
  fin_cases j <;> pointwise

theorem upR_apply (D : ℕ) (hD : D ≠ 1) (h : (M2 100000 D).BroadcastsInDim (U3 1 D) ![1, 2]) (x : (M2 100000 D).Idx → EReal) (n : Fin 100000) (c : Fin D) :
    broadcastInDim (U3 1 D) ![1, 2] h x (ix3 0 n c) = x (ix2 n c) :=
  broadcastInDim_apply _ h x _ _ fun a => match a with
    | ⟨0, _⟩ => (if_neg (by decide : ¬ (100000 : ℕ) = 1)).symm
    | ⟨1, _⟩ => (if_neg hD).symm

theorem stackR_apply (f o : ℕ) (h : RefFacts f o) (x0 x1 x2 : FVec Ideal (M2 100000 (4 * f)) .f32) (b : Fin 4) (n : Fin 100000) (j : Fin 3) (k : Fin f) :
    stackR f o h x0 x1 x2 (ix3 b n (colK j k)) = ![x0, x1, x2] j (ix2 n (colD b k)) := by
  unfold stackR
  rw [shapeCast_apply _ h.s4 _ (ix4 b n j k)]
  · rw [show transpose (V4 f) [2, 1, 0, 3] _ h.t3 (ix4 b n j k) = _ from transpose_apply _ _ h.t3 _ (ix4 j n b k) (by intro a; fin_cases a <;> rfl)]
    rw [shapeCast_apply _ h.s3 _ (ix3 j n (colD b k))]
    · rw [cat3_apply]
      fin_cases j <;> exact upR_apply _ (by omega) h.bu _ n _
    · rw [rowMajor_val3 _ (100000 * (4 * f)) (4 * f) rfl rfl, rowMajor_val4 _ (100000 * (4 * f)) (4 * f) f rfl rfl rfl]
      show j.val * (100000 * (4 * f)) + n.val * (4 * f) + (b.val * f + k.val) = j.val * (100000 * (4 * f)) + n.val * (4 * f) + b.val * f + k.val
      ring
  · rw [rowMajor_val3 _ (100000 * (3 * f)) (3 * f) rfl rfl, rowMajor_val4 _ (100000 * (3 * f)) (3 * f) f rfl rfl rfl]
    show b.val * (100000 * (3 * f)) + n.val * (3 * f) + j.val * f + k.val = b.val * (100000 * (3 * f)) + n.val * (3 * f) + (j.val * f + k.val)
    ring

def dotR (f o : ℕ) (h : RefFacts f o) : DotDims (X3 (3 * f)) (M2 (3 * f) o) (X3 o) where
  lhsContracting := [2]
  rhsContracting := [0]
  lhsNonContracting := [0, 1]
  rhsNonContracting := [1]
  lhsBatch := []
  rhsBatch := []
  wf := h.d

/-- The third Chebyshev term. -/
def thirdR (f o : ℕ) (h : RefFacts f o) (x : FVec Ideal (M2 100000 (4 * f)) .f32) : FVec Ideal (M2 100000 (4 * f)) .f32 :=
  subf (mulf (broadcastInDim _ ![] h.bz (val_main_cst_11 (F := Ideal))) (spmmR f o h (spmmR f o h x))) x

/-- One Chebyshev convolution. -/
def convR (f o : ℕ) (h : RefFacts f o) (x : FVec Ideal (X3 f) .f32) (w : FVec Ideal (M2 (3 * f) o) .f32) : FVec Ideal (X3 o) .f32 :=
  Host.dotGeneral (dotR f o h) none
    (stackR f o h (flatR f o h x) (spmmR f o h (flatR f o h x)) (thirdR f o h (flatR f o h x))) w

theorem ofBits_two_f32 : Ideal.ofBits .f32 0x40000000#32 = (2 : EReal) := by
  rw [show (2 : EReal) = ((2 : ℝ) : EReal) from rfl]; simp [Ideal.ofBits, Ideal.ieee, -EReal.coe_mul]; norm_num

theorem sum_colK {f : ℕ} (G : Fin (3 * f) → EReal) :
    (∑ c : Fin (3 * f), G c) = (∑ k : Fin f, G (colK 0 k)) + (∑ k : Fin f, G (colK 1 k)) + ∑ k : Fin f, G (colK 2 k) := by
  rw [Fin.sum_univ_tiles 3 f rfl, Fin.sum_univ_three]
  rfl

/-- An array over the vertices holds the planes `Z`. -/
def IsFlat (f : ℕ) (x : (X3 f).Idx → EReal) (Z : Fin 4 → ℕ → ℤ → ℕ → EReal) : Prop :=
  ∀ (b : Fin 4) (n : Fin 100000) (k : Fin f), x (ix3 b n k) = Z b k ((n.val / 500 : ℕ) : ℤ) (n.val % 500)

theorem convR_spec (f o : ℕ) (h : RefFacts f o) (x : FVec Ideal (X3 f) .f32) (w : FVec Ideal (M2 (3 * f) o) .f32)
    (Z : Fin 4 → ℕ → ℤ → ℕ → EReal) (W : ℕ → ℕ → EReal) (hx : IsFlat f x Z) (hZ : ∀ b k, NoBot (Z b k))
    (hw : ∀ (k : Fin (3 * f)) (p : Fin o), w (ix2 k p) = W k p) : IsFlat o (convR f o h x w) fun b p => conv f W (Z b) p := by
  intro b n p
  have y0 : ∀ (k : Fin f) (n : Fin 100000), flatR f o h x (ix2 n (colD b k)) = Z b k ((n.val / 500 : ℕ) : ℤ) (n.val % 500) := fun k n => by
    rw [flatR_apply, hx]
  have y1 : ∀ (k : Fin f) (n : Fin 100000), spmmR f o h (flatR f o h x) (ix2 n (colD b k)) = lap (Z b k) ((n.val / 500 : ℕ) : ℤ) (n.val % 500) := fun k n => by
    rw [spmmR_apply f o h _ (colD b k) (Z b k) (y0 k), lapE_of_noBot (hZ b k)]
  have y2 : ∀ (k : Fin f) (n : Fin 100000), thirdR f o h (flatR f o h x) (ix2 n (colD b k)) = cheb2 (Z b k) ((n.val / 500 : ℕ) : ℤ) (n.val % 500) := fun k n => by
    have two : broadcastInDim (M2 100000 (4 * f)) ![] h.bz (val_main_cst_11 (F := Ideal)) (ix2 n (colD b k)) = 2 := by
      pointwise
      exact ofBits_two_f32
    unfold thirdR
    rw [subf_apply, mulf_apply, two, y0, spmmR_apply f o h _ (colD b k) _ (y1 k), lapE_of_noTop (lap_noTop (hZ b k))]
    rfl
  have e : convR f o h x w (ix3 b n p) = ∑ c : Fin (3 * f),
      stackR f o h (flatR f o h x) (spmmR f o h (flatR f o h x)) (thirdR f o h (flatR f o h x)) (ix3 b n c) * w (ix2 c p) := by
    pointwise [convR]
    rw [Ideal.matmul_apply₁_of _ (a := 2) rfl (K := 3 * f) rfl _ _ _ _ (fun k => ix3 b n k) (fun k => ix2 k p)]
    · exact zero_add _
    · intro k; funext a; fin_cases a <;> rfl
    · intro k; funext a; fin_cases a <;> rfl
  rw [e, sum_colK]
  simp only [stackR_apply, hw]
  have col : ∀ (j : Fin 3) (k : Fin f), ((colK j k : Fin (3 * f)) : ℕ) = j.val * f + k.val := fun _ _ => rfl
  simp only [col]
  unfold conv
  refine congrArg₂ (· + ·) (congrArg₂ (· + ·) (Finset.sum_congr rfl fun k _ => ?_) (Finset.sum_congr rfl fun k _ => ?_))
    (Finset.sum_congr rfl fun k _ => ?_)
  · show flatR f o h x _ * W (0 * f + k) p = _
    rw [y0, Nat.zero_mul, Nat.zero_add]
  · show spmmR f o h (flatR f o h x) _ * W (1 * f + k) p = _
    rw [y1, Nat.one_mul]
  · show thirdR f o h (flatR f o h x) _ * W (2 * f + k) p = _
    rw [y2]

end

end Cert.Cheb
-- ==== Proof.RefNet.lean ====
module

public import proofs.«01_k».proof.Proof.Ref

@[expose] public section

set_option maxRecDepth 16384

open Idealize.ShloMosaic Cert.ReferenceIdeal Cert.ReferenceIdeal.Gen Cert.ReferenceIdeal.Read

namespace Cert.Cheb

noncomputable section

/-! # The reference's five layers -/

/-- The activation as the reference writes it. -/
def eluR {s : Shape} (hb : (⟨0, ![]⟩ : Shape).BroadcastsInDim s ![]) (a : FVec Ideal s .f32) : FVec Ideal s .f32 :=
  let z : FVec Ideal s .f32 := broadcastInDim s ![] hb (constant (⟨0, ![]⟩ : Shape) .f32 0x00000000#32)
  let g := cmpf .ogt a z
  select g a (mulf (broadcastInDim s ![] hb (constant (⟨0, ![]⟩ : Shape) .f32 0x3F800000#32)) (Host.expm1 (select g z a)))

theorem eluR_apply {s : Shape} (hb) (a : FVec Ideal s .f32) (j : s.Idx) : eluR hb a j = elu (a j) := by
  have z : (broadcastInDim s ![] hb (constant (⟨0, ![]⟩ : Shape) .f32 0x00000000#32) : FVec Ideal s .f32) j = 0 := by
    exact Ideal.ofBits_zero_f32
  have o : (broadcastInDim s ![] hb (constant (⟨0, ![]⟩ : Shape) .f32 0x3F800000#32) : FVec Ideal s .f32) j = 1 := by
    exact Ideal.ofBits_one_f32
  show Scalar.select (FloatOps.cmpf .ogt (a j) _) (a j) (FloatOps.mulf _ (FloatOps.hostUnary .expm1 (Scalar.select (FloatOps.cmpf .ogt (a j) _) _ (a j)))) = _
  rw [z, o]
  unfold elu
  pointwise
  by_cases h : 0 < a j
  · rw [if_pos h, if_pos h]
  · rw [if_neg h, if_neg h, if_neg h, min_eq_left (not_lt.1 h)]

variable (x : FVec Ideal (X3 128) .f32) (w1 : FVec Ideal (M2 384 64) .f32) (w2 w3 w4 : FVec Ideal (M2 192 64) .f32) (w5 : FVec Ideal (M2 192 128) .f32)

theorem facts128 : RefFacts 128 64 :=
  ⟨transposes_S4x100000x128_S100000x4x128_1_0_2, shapeCasts_S100000x4x128_S100000x512, bcast_S399000x1_S399000x512_0_1, bcast_S_S100000x512,
    bcast_S100000x512_S1x100000x512_1_2, concatenates_S1x100000x512_S1x100000x512_S1x100000x512_S3x100000x512_d0,
    shapeCasts_S3x100000x512_S3x100000x4x128, transposes_S3x100000x4x128_S4x100000x3x128_2_1_0_3, shapeCasts_S4x100000x3x128_S4x100000x384,
    gather_S100000x512_S399000x1_S399000x512_1_0_n_n_0_1_1512_wf, scatter_S100000x512_S399000x1_S399000x512_1_0_0_1_wf,
    dot_S4x100000x384_S384x64_S4x100000x64_2_0_01_1_n_n_wf⟩

theorem facts64 (o : ℕ) (d : DotDims.WF (X3 (3 * 64)) (M2 (3 * 64) o) (X3 o) [2] [0] [0, 1] [1] [] []) : RefFacts 64 o :=
  ⟨transposes_S4x100000x64_S100000x4x64_1_0_2, shapeCasts_S100000x4x64_S100000x256, bcast_S399000x1_S399000x256_0_1, bcast_S_S100000x256,
    bcast_S100000x256_S1x100000x256_1_2, concatenates_S1x100000x256_S1x100000x256_S1x100000x256_S3x100000x256_d0,
    shapeCasts_S3x100000x256_S3x100000x4x64, transposes_S3x100000x4x64_S4x100000x3x64_2_1_0_3, shapeCasts_S4x100000x3x64_S4x100000x192,
    gather_S100000x256_S399000x1_S399000x256_1_0_n_n_0_1_1256_wf, scatter_S100000x256_S399000x1_S399000x256_1_0_0_1_wf, d⟩

theorem conv1_eq : val_main_v71 (F := Ideal) x w1 = convR 128 64 facts128 x w1 := rfl
theorem elu1_eq : val_main_v72 (F := Ideal) x w1 = eluR bcast_S_S4x100000x64 (val_main_v71 (F := Ideal) x w1) := rfl
theorem conv2_eq : val_main_v111 (F := Ideal) x w1 w2 = convR 64 64 (facts64 64 dot_S4x100000x192_S192x64_S4x100000x64_2_0_01_1_n_n_wf)
    (val_main_v72 (F := Ideal) x w1) w2 := rfl
theorem elu2_eq : val_main_v112 (F := Ideal) x w1 w2 = eluR bcast_S_S4x100000x64 (val_main_v111 (F := Ideal) x w1 w2) := rfl
theorem conv3_eq : val_main_v151 (F := Ideal) x w1 w2 w3 = convR 64 64 (facts64 64 dot_S4x100000x192_S192x64_S4x100000x64_2_0_01_1_n_n_wf)
    (val_main_v112 (F := Ideal) x w1 w2) w3 := rfl
theorem elu3_eq : val_main_v152 (F := Ideal) x w1 w2 w3 = eluR bcast_S_S4x100000x64 (val_main_v151 (F := Ideal) x w1 w2 w3) := rfl
theorem conv4_eq : val_main_v191 (F := Ideal) x w1 w2 w3 w4 = convR 64 64 (facts64 64 dot_S4x100000x192_S192x64_S4x100000x64_2_0_01_1_n_n_wf)
    (val_main_v152 (F := Ideal) x w1 w2 w3) w4 := rfl
theorem elu4_eq : val_main_v192 (F := Ideal) x w1 w2 w3 w4 = eluR bcast_S_S4x100000x64 (val_main_v191 (F := Ideal) x w1 w2 w3 w4) := rfl
theorem conv5_eq : val_main_v231 (F := Ideal) x w1 w2 w3 w4 w5 = convR 64 128 (facts64 128 dot_S4x100000x192_S192x128_S4x100000x128_2_0_01_1_n_n_wf)
    (val_main_v192 (F := Ideal) x w1 w2 w3 w4) w5 := rfl

/-! ## The planes of every layer, from the arguments -/

/-- A matrix as a function of two numbers, zero outside. -/
def matF (m n : ℕ) (w : (M2 m n).Idx → EReal) (k p : ℕ) : EReal := if h : k < m ∧ p < n then w (ix2 ⟨k, h.1⟩ ⟨p, h.2⟩) else 0

theorem matF_apply (m n : ℕ) (w : (M2 m n).Idx → EReal) (k : Fin m) (p : Fin n) : w (ix2 k p) = matF m n w k p := by
  unfold matF; rw [dif_pos ⟨k.isLt, p.isLt⟩]

/-- The input's planes, zero outside the grid. -/
def plane0 (b : Fin 4) (k : ℕ) (r : ℤ) (q : ℕ) : EReal :=
  if h : k < 128 ∧ 0 ≤ r ∧ r < 200 ∧ q < 500 then x (ix3 b ⟨r.toNat * 500 + q, by omega⟩ ⟨k, h.1⟩) else 0
def plane1 (b : Fin 4) : ℕ → ℤ → ℕ → EReal := layer 128 (matF 384 64 w1) (plane0 x b)
def plane2 (b : Fin 4) : ℕ → ℤ → ℕ → EReal := layer 64 (matF 192 64 w2) (plane1 x w1 b)
def plane3 (b : Fin 4) : ℕ → ℤ → ℕ → EReal := layer 64 (matF 192 64 w3) (plane2 x w1 w2 b)
def plane4 (b : Fin 4) : ℕ → ℤ → ℕ → EReal := layer 64 (matF 192 64 w4) (plane3 x w1 w2 w3 b)
def plane5 (b : Fin 4) : ℕ → ℤ → ℕ → EReal := conv 64 (matF 192 128 w5) (plane4 x w1 w2 w3 w4 b)

theorem plane0_flat : IsFlat 128 x (plane0 x) := by
  intro b n k
  unfold plane0
  rw [dif_pos ⟨k.isLt, by omega, by omega, by omega⟩]
  exact congrArg (fun m => x (ix3 b m k)) (Fin.ext (show n.val = (((n.val / 500 : ℕ) : ℤ)).toNat * 500 + n.val % 500 by omega))

theorem plane0_noBot (hx : ∀ j, x j ≠ ⊥) (b : Fin 4) (k : ℕ) : NoBot (plane0 x b k) := by
  intro r q
  unfold plane0
  split
  · exact hx _
  · exact EReal.zero_ne_bot

/-- One hidden layer keeps the correspondence. -/
theorem hidden_flat (f : ℕ) (h : RefFacts f 64) (y : FVec Ideal (X3 f) .f32) (w : FVec Ideal (M2 (3 * f) 64) .f32) (Z : Fin 4 → ℕ → ℤ → ℕ → EReal)
    (hy : IsFlat f y Z) (hZ : ∀ b k, NoBot (Z b k)) :
    IsFlat 64 (eluR bcast_S_S4x100000x64 (convR f 64 h y w)) fun b => layer f (matF (3 * f) 64 w) (Z b) := by
  intro b n k
  rw [eluR_apply, convR_spec f 64 h y w Z (matF (3 * f) 64 w) hy hZ (matF_apply _ _ w)]
  rfl

theorem result_flat (hx : ∀ j, x j ≠ ⊥) : IsFlat 128 (val_main_v231 (F := Ideal) x w1 w2 w3 w4 w5) (plane5 x w1 w2 w3 w4 w5) := by
  have h1 : IsFlat 64 (val_main_v72 (F := Ideal) x w1) (plane1 x w1) := by
    rw [elu1_eq, conv1_eq]; exact hidden_flat 128 _ x w1 _ (plane0_flat x) (plane0_noBot x hx)
  have h2 : IsFlat 64 (val_main_v112 (F := Ideal) x w1 w2) (plane2 x w1 w2) := by
    rw [elu2_eq, conv2_eq]; exact hidden_flat 64 _ _ w2 _ h1 fun _ _ => layer_noBot _ _ _ _
  have h3 : IsFlat 64 (val_main_v152 (F := Ideal) x w1 w2 w3) (plane3 x w1 w2 w3) := by
    rw [elu3_eq, conv3_eq]; exact hidden_flat 64 _ _ w3 _ h2 fun _ _ => layer_noBot _ _ _ _
  have h4 : IsFlat 64 (val_main_v192 (F := Ideal) x w1 w2 w3 w4) (plane4 x w1 w2 w3 w4) := by
    rw [elu4_eq, conv4_eq]; exact hidden_flat 64 _ _ w4 _ h3 fun _ _ => layer_noBot _ _ _ _
  rw [conv5_eq]
  exact convR_spec 64 128 _ _ w5 _ (matF 192 128 w5) h4 (fun _ _ => layer_noBot _ _ _ _) (matF_apply _ _ w5)

end

end Cert.Cheb
-- ==== Proof.KFacts.lean ====
module

public import proofs.«01_k».proof.Proof.Body
public import proofs.«01_k».proof.Proof.Gen.KernelIdeal.Skeleton
public import Idealize.ShloMosaic.Lib.Pipeline.ValueKit

@[expose] public section

set_option maxRecDepth 16384

noncomputable section

namespace Cert.Cheb

open Idealize.ShloMosaic Idealize.ShloMosaic.Tactic Cert.KernelIdeal Cert.KernelIdeal.Gen

/-! The shape facts of the kernel's blocks, gathered per block size. -/

theorem lap12n : LapFacts 12 64 :=
  ⟨slices_S4x14x500x64_o0_0_0_0_S4x12x500x64, slices_S4x14x500x64_o0_1_0_0_S4x12x500x64, slices_S4x14x500x64_o0_2_0_0_S4x12x500x64,
    slices_S4x12x500x64_o0_0_499_0_S4x12x1x64, slices_S4x12x500x64_o0_0_0_0_S4x12x499x64, slices_S4x12x500x64_o0_0_1_0_S4x12x499x64,
    slices_S4x12x500x64_o0_0_0_0_S4x12x1x64, concatenates_S4x12x1x64_S4x12x499x64_S4x12x500x64_d2, concatenates_S4x12x499x64_S4x12x1x64_S4x12x500x64_d2,
    shapeCasts_S12_S1x12x1x1, broadcasts_S1x12x1x1_S4x12x500x64, iota_S1x12_d1_w32, shapeCasts_S1x12_S12, bitsLt_bf16_f32⟩

theorem lap10n : LapFacts 10 64 :=
  ⟨slices_S4x12x500x64_o0_0_0_0_S4x10x500x64, slices_S4x12x500x64_o0_1_0_0_S4x10x500x64, slices_S4x12x500x64_o0_2_0_0_S4x10x500x64,
    slices_S4x10x500x64_o0_0_499_0_S4x10x1x64, slices_S4x10x500x64_o0_0_0_0_S4x10x499x64, slices_S4x10x500x64_o0_0_1_0_S4x10x499x64,
    slices_S4x10x500x64_o0_0_0_0_S4x10x1x64, concatenates_S4x10x1x64_S4x10x499x64_S4x10x500x64_d2, concatenates_S4x10x499x64_S4x10x1x64_S4x10x500x64_d2,
    shapeCasts_S10_S1x10x1x1, broadcasts_S1x10x1x1_S4x10x500x64, iota_S1x10_d1_w32, shapeCasts_S1x10_S10, bitsLt_bf16_f32⟩

theorem lap12w : LapFacts 12 128 :=
  ⟨slices_S4x14x500x128_o0_0_0_0_S4x12x500x128, slices_S4x14x500x128_o0_1_0_0_S4x12x500x128, slices_S4x14x500x128_o0_2_0_0_S4x12x500x128,
    slices_S4x12x500x128_o0_0_499_0_S4x12x1x128, slices_S4x12x500x128_o0_0_0_0_S4x12x499x128, slices_S4x12x500x128_o0_0_1_0_S4x12x499x128,
    slices_S4x12x500x128_o0_0_0_0_S4x12x1x128, concatenates_S4x12x1x128_S4x12x499x128_S4x12x500x128_d2, concatenates_S4x12x499x128_S4x12x1x128_S4x12x500x128_d2,
    shapeCasts_S12_S1x12x1x1, broadcasts_S1x12x1x1_S4x12x500x128, iota_S1x12_d1_w32, shapeCasts_S1x12_S12, bitsLt_bf16_f32⟩

theorem lap10w : LapFacts 10 128 :=
  ⟨slices_S4x12x500x128_o0_0_0_0_S4x10x500x128, slices_S4x12x500x128_o0_1_0_0_S4x10x500x128, slices_S4x12x500x128_o0_2_0_0_S4x10x500x128,
    slices_S4x10x500x128_o0_0_499_0_S4x10x1x128, slices_S4x10x500x128_o0_0_0_0_S4x10x499x128, slices_S4x10x500x128_o0_0_1_0_S4x10x499x128,
    slices_S4x10x500x128_o0_0_0_0_S4x10x1x128, concatenates_S4x10x1x128_S4x10x499x128_S4x10x500x128_d2, concatenates_S4x10x499x128_S4x10x1x128_S4x10x500x128_d2,
    shapeCasts_S10_S1x10x1x1, broadcasts_S1x10x1x1_S4x10x500x128, iota_S1x10_d1_w32, shapeCasts_S1x10_S10, bitsLt_bf16_f32⟩

theorem joinn : JoinFacts 64 := ⟨shapeCasts_S4x2x500x64_S4x2x500x64, shapeCasts_S4x10x500x64_S4x10x500x64, concatenates_S4x2x500x64_S4x10x500x64_S4x2x500x64_S4x14x500x64_d1⟩
theorem joinw : JoinFacts 128 := ⟨shapeCasts_S4x2x500x128_S4x2x500x128, shapeCasts_S4x10x500x128_S4x10x500x128, concatenates_S4x2x500x128_S4x10x500x128_S4x2x500x128_S4x14x500x128_d1⟩

theorem dotwn : DotFacts 128 64 := ⟨shapeCasts_S4x10x500x128_S20000x128, shapeCasts_S128x64_S128x64, shapeCasts_S20000x64_S4x10x500x64,
  dot_S20000x128_S128x64_S20000x64_1_0_0_1_n_n_wf, slices_S4x14x500x128_o0_2_0_0_S4x10x500x128⟩
theorem dotnn : DotFacts 64 64 := ⟨shapeCasts_S4x10x500x64_S20000x64, shapeCasts_S64x64_S64x64, shapeCasts_S20000x64_S4x10x500x64,
  dot_S20000x64_S64x64_S20000x64_1_0_0_1_n_n_wf, slices_S4x14x500x64_o0_2_0_0_S4x10x500x64⟩
theorem dotnw : DotFacts 64 128 := ⟨shapeCasts_S4x10x500x64_S20000x64, shapeCasts_S64x128_S64x128, shapeCasts_S20000x128_S4x10x500x128,
  dot_S20000x64_S64x128_S20000x128_1_0_0_1_n_n_wf, slices_S4x14x500x64_o0_2_0_0_S4x10x500x64⟩

/-! # One grid point of a layer, from the arrays it reads -/

/-- A grid of 200 rows holds the planes. -/
def IsBox (f : ℕ) (X : (B4 200 f).Idx → EReal) (Z : Fin 4 → ℕ → ℤ → ℕ → EReal) : Prop :=
  ∀ (b : Fin 4) (r : Fin 200) (q : Fin 500) (k : Fin f), X (ix4 b r q k) = Z b k ((r.val : ℕ) : ℤ) q

/-- What grid point `i` reads: the two rows above, its ten rows, the two below, and the three matrices. -/
structure Reads (f o i : ℕ) (hi : i < 20) (X : (B4 200 f).Idx → EReal) (U : (M2 (3 * f) o).Idx → EReal) {ty : FTy} (a : FVec Ideal (B4 2 f) ty)
    (c : FVec Ideal (B4 10 f) ty) (d : FVec Ideal (B4 2 f) ty) (w0 w1 w2 : FVec Ideal (M2 f o) .bf16) : Prop where
  above : ∀ (b : Fin 4) (s : Fin 2) (q : Fin 500) (k : Fin f), a (ix4 b s q k) = X (ix4 b ⟨2 * (5 * i - 1) + s.val, by omega⟩ q k)
  rows : ∀ (b : Fin 4) (s : Fin 10) (q : Fin 500) (k : Fin f), c (ix4 b s q k) = X (ix4 b ⟨10 * i + s.val, by omega⟩ q k)
  below : ∀ (b : Fin 4) (s : Fin 2) (q : Fin 500) (k : Fin f), d (ix4 b s q k) = X (ix4 b ⟨2 * (min (5 * i + 5) 99) + s.val, by omega⟩ q k)
  first : ∀ (k : Fin f) (p : Fin o), w0 (ix2 k p) = U (ix2 ⟨0 + k.val, by omega⟩ p)
  second : ∀ (k : Fin f) (p : Fin o), w1 (ix2 k p) = U (ix2 ⟨f + k.val, by omega⟩ p)
  third : ∀ (k : Fin f) (p : Fin o), w2 (ix2 k p) = U (ix2 ⟨2 * f + k.val, by omega⟩ p)

/-- Some rows of a matrix, loaded. -/
theorem ld_rows (m n f off : ℕ) (v : Vec Ideal (M2 m n) .bf16) (inb : ∀ a, (![off, 0] : Fin 2 → ℕ) a + (![f, n] : Fin 2 → ℕ) a ≤ (M2 m n).size a)
    (k : Fin f) (p : Fin n) (h : off + k.val < m) :
    View.ld v (Rect.unit (s := M2 m n) ![off, 0] ![f, n] inb) (ix2 k p) = v (ix2 ⟨off + k.val, h⟩ p) :=
  View.ld_unit_apply_of v _ _ _ (ix2 k p) (ix2 ⟨off + k.val, h⟩ p) (by intro a; fin_cases a <;> simp)

section

variable {f o i : ℕ} {hi : i < 20} {X : (B4 200 f).Idx → EReal} {U : (M2 (3 * f) o).Idx → EReal} {ty : FTy} {a : FVec Ideal (B4 2 f) ty}
    {c : FVec Ideal (B4 10 f) ty} {d : FVec Ideal (B4 2 f) ty} {w0 w1 w2 : FVec Ideal (M2 f o) .bf16}

theorem Reads.box (R : Reads f o i hi X U a c d w0 w1 w2) (hj : JoinFacts f) (Z : Fin 4 → ℕ → ℤ → ℕ → EReal) (hX : IsBox f X Z)
    (b : Fin 4) (s : Fin 14) (q : Fin 500) (k : Fin f) (h0 : 0 ≤ 10 * (i : ℤ) - 2 + s) (h1 : 10 * (i : ℤ) - 2 + s ≤ 199) :
    joinV f hj a c d (ix4 b s q k) = Z b k (10 * (i : ℤ) - 2 + s) q :=
  joinV_spec f hj a c d i hi Z (fun b s q k => (R.above b s q k).trans (hX ..)) (fun b s q k => (R.rows b s q k).trans (hX ..))
    (fun b s q k => (R.below b s q k).trans (hX ..)) b s q k h0 h1

/-- A grid point of a hidden layer stores the layer's values at its rows. -/
theorem Reads.hidden (R : Reads f o i hi X U a c d w0 w1 w2) (hj : JoinFacts f) (h12 : LapFacts 12 f) (h10 : LapFacts 10 f) (h : DotFacts f o)
    (Z : Fin 4 → ℕ → ℤ → ℕ → EReal) (hX : IsBox f X Z) (W : ℕ → ℕ → EReal) (hU : ∀ (k : Fin (3 * f)) (p : Fin o), U (ix2 k p) = W k p)
    (x : FVec Ideal (B4 14 f) .bf16) (hx : ∀ j, (x j : EReal) = joinV f hj a c d j) (y : (B4 10 o).Idx) (y' : (B4 200 o).Idx)
    (e0 : (y' 0).val = (y 0).val) (e1 : (y' 1).val = 10 * i + (y 1).val) (e2 : (y' 2).val = (y 2).val) (e3 : (y' 3).val = (y 3).val) :
    hidV f o h12 h10 h i x w0 w1 w2 y = layer f W (Z (y' 0)) (y' 3).val (((y' 1).val : ℕ) : ℤ) (y' 2).val := by
  have key := hidV_spec f o h12 h10 h i hi x w0 w1 w2 Z W (fun b s q k g0 g1 => (hx _).trans (R.box hj Z hX b s q k g0 g1))
    (fun k p => (R.first k p).trans ((hU _ p).trans (congrArg (fun n => W n p) (Nat.zero_add k.val)))) (fun k p => (R.second k p).trans (hU _ p)) (fun k p => (R.third k p).trans (hU _ p))
    (y 0) (y 1) (y 2) (y 3)
  refine Eq.trans (congrArg _ (eq_ix4 y)) (key.trans ?_)
  rw [e1, e2, e3, show y' 0 = y 0 from Fin.ext e0]

/-- A grid point of the last layer stores the layer's values at its rows. -/
theorem Reads.last (R : Reads f o i hi X U a c d w0 w1 w2) (hj : JoinFacts f) (h12 : LapFacts 12 f) (h10 : LapFacts 10 f) (h : DotFacts f o)
    (Z : Fin 4 → ℕ → ℤ → ℕ → EReal) (hX : IsBox f X Z) (W : ℕ → ℕ → EReal) (hU : ∀ (k : Fin (3 * f)) (p : Fin o), U (ix2 k p) = W k p)
    (x : FVec Ideal (B4 14 f) .bf16) (hx : ∀ j, (x j : EReal) = joinV f hj a c d j) (y : (B4 10 o).Idx) (y' : (B4 200 o).Idx)
    (e0 : (y' 0).val = (y 0).val) (e1 : (y' 1).val = 10 * i + (y 1).val) (e2 : (y' 2).val = (y 2).val) (e3 : (y' 3).val = (y 3).val) :
    lastV f o h12 h10 h i x w0 w1 w2 y = conv f W (Z (y' 0)) (y' 3).val (((y' 1).val : ℕ) : ℤ) (y' 2).val := by
  have key := lastV_spec f o h12 h10 h i hi x w0 w1 w2 Z W (fun b s q k g0 g1 => (hx _).trans (R.box hj Z hX b s q k g0 g1))
    (fun k p => (R.first k p).trans ((hU _ p).trans (congrArg (fun n => W n p) (Nat.zero_add k.val)))) (fun k p => (R.second k p).trans (hU _ p)) (fun k p => (R.third k p).trans (hU _ p))
    (y 0) (y 1) (y 2) (y 3)
  refine Eq.trans (congrArg _ (eq_ix4 y)) (key.trans ?_)
  rw [e1, e2, e3, show y' 0 = y 0 from Fin.ext e0]

end

end Cert.Cheb
-- ==== Proof.Region1.lean ====
module

public import proofs.«01_k».proof.Proof.KFacts
public import proofs.«01_k».proof.Proof.Gen.KernelIdeal.Frame

@[expose] public section

set_option maxRecDepth 16384

noncomputable section

namespace Cert.Cheb

open Idealize.ShloMosaic Idealize.ShloMosaic.Tactic Cert.KernelIdeal Cert.KernelIdeal.Gen
open Idealize.ShloMosaic.TcCoe

/-! # Call 1: a hidden layer -/

/-- What a grid point stores, as one expression of the blocks it reads. -/
theorem out1_eq (i : grid1.Coords) (x0 : Vec Ideal S4x2x500x64 .bf16) (x1 : Vec Ideal S4x10x500x64 .bf16) (x2 : Vec Ideal S4x2x500x64 .bf16) (x3 : Vec Ideal S192x64 .bf16) :
    out1_4 i x0 x1 x2 x3 = hidV 64 64 lap12n lap10n dotnn (i 0).val (joinV 64 joinn x0 x1 x2) (View.ld x3 r1_2) (View.ld x3 r1_3) (View.ld x3 r1_4) := by
  have e0 : View.ld x0 r1_0 = x0 := View.ld_unit_lit _ _ (by decide)
  have e1 : View.ld x1 r1_1 = x1 := View.ld_unit_lit _ _ (by decide)
  have e2 : View.ld x2 r1_0 = x2 := View.ld_unit_lit _ _ (by decide)
  unfold_out out1_4
  rw [show View.canon [(⟨r1_1, _⟩ : View.Piece (Elt Ideal) S4x10x500x64 .bf16)] = _ from View.canon_cons_unit_lit _ _ _ (by decide), e0, e1, e2]
  rfl

theorem idx1_0 : ∀ t : Fin cfg1.N, win1_0.index t = ![0, 5 * (grid1.coords t 0).val - 1, 0, 0] := (by decide +kernel : ∀ t : Fin grid1.N, _)
theorem idx1_1 : ∀ t : Fin cfg1.N, win1_1.index t = ![0, (grid1.coords t 0).val, 0, 0] := (by decide +kernel : ∀ t : Fin grid1.N, _)
theorem idx1_2 : ∀ t : Fin cfg1.N, win1_2.index t = ![0, min (5 * (grid1.coords t 0).val + 5) 99, 0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, (grid1.coords t 0).val, 0, 0] := (by decide +kernel : ∀ t : Fin grid1.N, _)

/-- The blocks that a grid point reads of any pair of arrays of these shapes. -/
theorem reads_mid (A : FVec Ideal S4x200x500x64 .bf16) (U : FVec Ideal S192x64 .bf16) (t : Fin cfg1.N) :
    Reads 64 64 (grid1.coords t 0).val (grid1.coords t 0).isLt A U (ty := .bf16)
    ((win1_0.blk t).view.read (Elt Ideal) A) ((win1_1.blk t).view.read (Elt Ideal) A) ((win1_2.blk t).view.read (Elt Ideal) A)
    (View.ld ((win1_3.blk t).view.read (Elt Ideal) U) r1_2) (View.ld ((win1_3.blk t).view.read (Elt Ideal) U) r1_3)
    (View.ld ((win1_3.blk t).view.read (Elt Ideal) U) r1_4) := by
  have hv : ∀ (k : Fin 192) (p : Fin 64), ((win1_3.blk t).view.read (Elt Ideal) U : S192x64.Idx → EReal) (ix2 k p) = U (ix2 k p) :=
    fun k p => congrArg U (by blk_ext [idx1_3 t])
  exact ⟨fun b s q k => congrArg A (by blk_ext [idx1_0 t]), fun b s q k => congrArg A (by blk_ext [idx1_1 t]),
    fun b s q k => congrArg A (by blk_ext [idx1_2 t]),
    fun k p => (ld_rows 192 64 64 0 _ _ k p (by omega)).trans (hv _ p), fun k p => (ld_rows 192 64 64 64 _ _ k p (by omega)).trans (hv _ p),
    fun k p => (ld_rows 192 64 64 (2 * 64) _ _ k p (by omega)).trans (hv _ p)⟩

/-- Where a block of the result lies. -/
theorem emb_mid (t : Fin cfg1.N) (y : S4x10x500x64.Idx) :
    let e : S4x200x500x64.Idx := (win1_4.blk t).view.emb y
    (e 0).val = (y 0).val ∧ (e 1).val = 10 * (grid1.coords t 0).val + (y 1).val ∧ (e 2).val = (y 2).val ∧ (e 3).val = (y 3).val :=
  ⟨by blk_simp [idx1_4 t], by blk_simp [idx1_4 t]; omega, by blk_simp [idx1_4 t], by blk_simp [idx1_4 t]⟩

variable (V : (c : Dev nD) → (b : Ref sig .tc) → Buf (Elt Ideal) ((c : Thread nD τ).loc b))

/-- The array the call leaves holds the next layer's planes. -/
theorem region1 (c : Dev nD) (Z : Fin 4 → ℕ → ℤ → ℕ → EReal) (hX : IsBox 64 (V c main_v2) Z) (W : ℕ → ℕ → EReal)
    (hU : ∀ (k : Fin 192) (p : Fin 64), (V c main_v3 : S192x64.Idx → EReal) (ix2 k p) = W k p) :
    IsBox 64 ((dat1 V c).arrAt 4 cfg1.N) fun b => layer 64 W (Z b) := by
  have e : (dat1 V c).arrAt 4 cfg1.N = fun y : S4x200x500x64.Idx => layer 64 W (Z (y 0)) (y 3).val (((y 1).val : ℕ) : ℤ) (y 2).val := by
    refine (dat1 V c).arrAt_eq_of_covers 4 _ (by decide +kernel) fun t hf y => ?_
    rw [after1_4, out1_eq]
    obtain ⟨h0, h1, h2, h3⟩ := emb_mid t y
    exact (reads_mid (V c main_v2) (V c main_v3) t).hidden joinn lap12n lap10n dotnn Z hX W hU _ (fun _ => rfl) y ((win1_4.blk t).view.emb y) h0 h1 h2 h3
  intro b r q k
  exact congrFun e (ix4 b r q k)

end Cert.Cheb
-- ==== Proof.Region0.lean ====
module

public import proofs.«01_k».proof.Proof.Region1
public import proofs.«01_k».proof.Proof.Gen.KernelIdeal.Frame

@[expose] public section

set_option maxRecDepth 16384

noncomputable section

namespace Cert.Cheb

open Idealize.ShloMosaic Idealize.ShloMosaic.Tactic Cert.KernelIdeal Cert.KernelIdeal.Gen
open Idealize.ShloMosaic.TcCoe

/-! # Call 0: a hidden layer -/

/-- What a grid point stores, as one expression of the blocks it reads. -/
theorem out0_eq (i : grid0.Coords) (x0 : Vec Ideal S4x2x500x128 .f32) (x1 : Vec Ideal S4x10x500x128 .f32) (x2 : Vec Ideal S4x2x500x128 .f32) (x3 : Vec Ideal S384x64 .bf16) :
    out0_4 i x0 x1 x2 x3 = hidV 128 64 lap12w lap10w dotwn (i 0).val (truncf (F := Ideal) .bf16 (joinV 128 joinw (ty := .f32) x0 x1 x2) bitsLt_bf16_f32) (View.ld x3 r0_2) (View.ld x3 r0_3) (View.ld x3 r0_4) := by
  have e0 : View.ld x0 r0_0 = x0 := View.ld_unit_lit _ _ (by decide)
  have e1 : View.ld x1 r0_1 = x1 := View.ld_unit_lit _ _ (by decide)
  have e2 : View.ld x2 r0_0 = x2 := View.ld_unit_lit _ _ (by decide)
  unfold_out out0_4
  rw [show View.canon [(⟨r0_5, _⟩ : View.Piece (Elt Ideal) S4x10x500x64 .bf16)] = _ from View.canon_cons_unit_lit _ _ _ (by decide), e0, e1, e2]
  rfl

theorem idx0_0 : ∀ t : Fin cfg0.N, win0_0.index t = ![0, 5 * (grid0.coords t 0).val - 1, 0, 0] := idx1_0
theorem idx0_1 : ∀ t : Fin cfg0.N, win0_1.index t = ![0, (grid0.coords t 0).val, 0, 0] := idx1_1
theorem idx0_2 : ∀ t : Fin cfg0.N, win0_2.index t = ![0, min (5 * (grid0.coords t 0).val + 5) 99, 0, 0] := idx1_2
theorem idx0_3 : ∀ t : Fin cfg0.N, win0_3.index t = ![0, 0] := idx1_3
theorem idx0_4 : ∀ t : Fin cfg0.N, win0_4.index t = ![0, (grid0.coords t 0).val, 0, 0] := idx1_4

variable (V : (c : Dev nD) → (b : Ref sig .tc) → Buf (Elt Ideal) ((c : Thread nD τ).loc b))

theorem reads0 (c : Dev nD) (t : Fin cfg0.N) : Reads 128 64 (grid0.coords t 0).val (grid0.coords t 0).isLt (V c main_v0) (V c main_v1) (ty := .f32)
    (iblk0 V c 0 t) (iblk0 V c 1 t) (iblk0 V c 2 t) (View.ld (iblk0 V c 3 t) r0_2) (View.ld (iblk0 V c 3 t) r0_3) (View.ld (iblk0 V c 3 t) r0_4) := by
  have hv : ∀ (k : Fin 384) (p : Fin 64), (iblk0 V c 3 t : S384x64.Idx → EReal) (ix2 k p) = V c main_v1 (ix2 k p) :=
    fun k p => congrArg (V c main_v1) (by blk_ext [idx0_3 t])
  exact ⟨fun b s q k => congrArg (V c main_v0) (by blk_ext [idx0_0 t]), fun b s q k => congrArg (V c main_v0) (by blk_ext [idx0_1 t]),
    fun b s q k => congrArg (V c main_v0) (by blk_ext [idx0_2 t]),
    fun k p => (ld_rows 384 64 128 0 (iblk0 V c 3 t) _ k p (by omega)).trans (hv _ p), fun k p => (ld_rows 384 64 128 128 (iblk0 V c 3 t) _ k p (by omega)).trans (hv _ p),
    fun k p => (ld_rows 384 64 128 (2 * 128) (iblk0 V c 3 t) _ k p (by omega)).trans (hv _ p)⟩

/-- The array the call leaves holds the next layer's planes. -/
theorem region0 (c : Dev nD) (Z : Fin 4 → ℕ → ℤ → ℕ → EReal) (hX : IsBox 128 (V c main_v0) Z) (W : ℕ → ℕ → EReal)
    (hU : ∀ (k : Fin 384) (p : Fin 64), (V c main_v1 : S384x64.Idx → EReal) (ix2 k p) = W k p) :
    IsBox 64 ((dat0 V c).arrAt 4 cfg0.N) fun b => layer 128 W (Z b) := by
  have e : (dat0 V c).arrAt 4 cfg0.N = fun y : S4x200x500x64.Idx => layer 128 W (Z (y 0)) (y 3).val (((y 1).val : ℕ) : ℤ) (y 2).val := by
    refine (dat0 V c).arrAt_eq_of_covers 4 _ (by decide +kernel) fun t hf y => ?_
    rw [after0_4, out0_eq]
    exact (reads0 V c t).hidden joinw lap12w lap10w dotwn Z hX W hU _ (fun _ => rfl) y ((win0_4.blk t).view.emb y)
      (by blk_simp [idx0_4 t]) (by blk_simp [idx0_4 t]; omega) (by blk_simp [idx0_4 t]) (by blk_simp [idx0_4 t])
  intro b r q k
  exact congrFun e (ix4 b r q k)

end Cert.Cheb
-- ==== Proof.Region2.lean ====
module

public import proofs.«01_k».proof.Proof.Region1
public import proofs.«01_k».proof.Proof.Gen.KernelIdeal.Frame

@[expose] public section

set_option maxRecDepth 16384

noncomputable section

namespace Cert.Cheb

open Idealize.ShloMosaic Idealize.ShloMosaic.Tactic Cert.KernelIdeal Cert.KernelIdeal.Gen
open Idealize.ShloMosaic.TcCoe

/-! # Call 2: a hidden layer -/

/-- What a grid point stores, as one expression of the blocks it reads. -/
theorem out2_eq (i : grid2.Coords) (x0 : Vec Ideal S4x2x500x64 .bf16) (x1 : Vec Ideal S4x10x500x64 .bf16) (x2 : Vec Ideal S4x2x500x64 .bf16) (x3 : Vec Ideal S192x64 .bf16) :
    out2_4 i x0 x1 x2 x3 = hidV 64 64 lap12n lap10n dotnn (i 0).val (joinV 64 joinn x0 x1 x2) (View.ld x3 r2_2) (View.ld x3 r2_3) (View.ld x3 r2_4) :=
  out1_eq i x0 x1 x2 x3

variable (V : (c : Dev nD) → (b : Ref sig .tc) → Buf (Elt Ideal) ((c : Thread nD τ).loc b))

/-- The array the call leaves holds the next layer's planes. -/
theorem region2 (c : Dev nD) (Z : Fin 4 → ℕ → ℤ → ℕ → EReal) (hX : IsBox 64 (V c main_v4) Z) (W : ℕ → ℕ → EReal)
    (hU : ∀ (k : Fin 192) (p : Fin 64), (V c main_v5 : S192x64.Idx → EReal) (ix2 k p) = W k p) :
    IsBox 64 ((dat2 V c).arrAt 4 cfg2.N) fun b => layer 64 W (Z b) := by
  have e : (dat2 V c).arrAt 4 cfg2.N = fun y : S4x200x500x64.Idx => layer 64 W (Z (y 0)) (y 3).val (((y 1).val : ℕ) : ℤ) (y 2).val := by
    refine (dat2 V c).arrAt_eq_of_covers 4 _ (by decide +kernel) fun t hf y => ?_
    rw [after2_4, out2_eq]
    obtain ⟨h0, h1, h2, h3⟩ := emb_mid t y
    exact (reads_mid (V c main_v4) (V c main_v5) t).hidden joinn lap12n lap10n dotnn Z hX W hU _ (fun _ => rfl) y ((win2_4.blk t).view.emb y) h0 h1 h2 h3
  intro b r q k
  exact congrFun e (ix4 b r q k)

end Cert.Cheb
-- ==== Proof.Region3.lean ====
module

public import proofs.«01_k».proof.Proof.Region1
public import proofs.«01_k».proof.Proof.Gen.KernelIdeal.Frame

@[expose] public section

set_option maxRecDepth 16384

noncomputable section

namespace Cert.Cheb

open Idealize.ShloMosaic Idealize.ShloMosaic.Tactic Cert.KernelIdeal Cert.KernelIdeal.Gen
open Idealize.ShloMosaic.TcCoe

/-! # Call 3: a hidden layer -/

/-- What a grid point stores, as one expression of the blocks it reads. -/
theorem out3_eq (i : grid3.Coords) (x0 : Vec Ideal S4x2x500x64 .bf16) (x1 : Vec Ideal S4x10x500x64 .bf16) (x2 : Vec Ideal S4x2x500x64 .bf16) (x3 : Vec Ideal S192x64 .bf16) :
    out3_4 i x0 x1 x2 x3 = hidV 64 64 lap12n lap10n dotnn (i 0).val (joinV 64 joinn x0 x1 x2) (View.ld x3 r3_2) (View.ld x3 r3_3) (View.ld x3 r3_4) :=
  out1_eq i x0 x1 x2 x3

variable (V : (c : Dev nD) → (b : Ref sig .tc) → Buf (Elt Ideal) ((c : Thread nD τ).loc b))

/-- The array the call leaves holds the next layer's planes. -/
theorem region3 (c : Dev nD) (Z : Fin 4 → ℕ → ℤ → ℕ → EReal) (hX : IsBox 64 (V c main_v6) Z) (W : ℕ → ℕ → EReal)
    (hU : ∀ (k : Fin 192) (p : Fin 64), (V c main_v7 : S192x64.Idx → EReal) (ix2 k p) = W k p) :
    IsBox 64 ((dat3 V c).arrAt 4 cfg3.N) fun b => layer 64 W (Z b) := by
  have e : (dat3 V c).arrAt 4 cfg3.N = fun y : S4x200x500x64.Idx => layer 64 W (Z (y 0)) (y 3).val (((y 1).val : ℕ) : ℤ) (y 2).val := by
    refine (dat3 V c).arrAt_eq_of_covers 4 _ (by decide +kernel) fun t hf y => ?_
    rw [after3_4, out3_eq]
    obtain ⟨h0, h1, h2, h3⟩ := emb_mid t y
    exact (reads_mid (V c main_v6) (V c main_v7) t).hidden joinn lap12n lap10n dotnn Z hX W hU _ (fun _ => rfl) y ((win3_4.blk t).view.emb y) h0 h1 h2 h3
  intro b r q k
  exact congrFun e (ix4 b r q k)

end Cert.Cheb
-- ==== Proof.Region4.lean ====
module

public import proofs.«01_k».proof.Proof.Region1
public import proofs.«01_k».proof.Proof.Gen.KernelIdeal.Frame

@[expose] public section

set_option maxRecDepth 16384

noncomputable section

namespace Cert.Cheb

open Idealize.ShloMosaic Idealize.ShloMosaic.Tactic Cert.KernelIdeal Cert.KernelIdeal.Gen
open Idealize.ShloMosaic.TcCoe

/-! # Call 4: the last layer -/

/-- What a grid point stores, as one expression of the blocks it reads. -/
theorem out4_eq (i : grid4.Coords) (x0 : Vec Ideal S4x2x500x64 .bf16) (x1 : Vec Ideal S4x10x500x64 .bf16) (x2 : Vec Ideal S4x2x500x64 .bf16) (x3 : Vec Ideal S192x128 .bf16) :
    out4_4 i x0 x1 x2 x3 = lastV 64 128 lap12n lap10n dotnw (i 0).val (joinV 64 joinn x0 x1 x2) (View.ld x3 r4_2) (View.ld x3 r4_3) (View.ld x3 r4_4) := by
  have e0 : View.ld x0 r4_0 = x0 := View.ld_unit_lit _ _ (by decide)
  have e1 : View.ld x1 r4_1 = x1 := View.ld_unit_lit _ _ (by decide)
  have e2 : View.ld x2 r4_0 = x2 := View.ld_unit_lit _ _ (by decide)
  unfold_out out4_4
  rw [show View.canon [(⟨r4_5, _⟩ : View.Piece (Elt Ideal) S4x10x500x128 .f32)] = _ from View.canon_cons_unit_lit _ _ _ (by decide), e0, e1, e2]
  rfl

theorem idx4_0 : ∀ t : Fin cfg4.N, win4_0.index t = ![0, 5 * (grid4.coords t 0).val - 1, 0, 0] := idx1_0
theorem idx4_1 : ∀ t : Fin cfg4.N, win4_1.index t = ![0, (grid4.coords t 0).val, 0, 0] := idx1_1
theorem idx4_2 : ∀ t : Fin cfg4.N, win4_2.index t = ![0, min (5 * (grid4.coords t 0).val + 5) 99, 0, 0] := idx1_2
theorem idx4_3 : ∀ t : Fin cfg4.N, win4_3.index t = ![0, 0] := idx1_3
theorem idx4_4 : ∀ t : Fin cfg4.N, win4_4.index t = ![0, (grid4.coords t 0).val, 0, 0] := idx1_4

variable (V : (c : Dev nD) → (b : Ref sig .tc) → Buf (Elt Ideal) ((c : Thread nD τ).loc b))

theorem reads4 (c : Dev nD) (t : Fin cfg4.N) : Reads 64 128 (grid4.coords t 0).val (grid4.coords t 0).isLt (V c main_v8) (V c main_v9) (ty := .bf16)
    (iblk4 V c 0 t) (iblk4 V c 1 t) (iblk4 V c 2 t) (View.ld (iblk4 V c 3 t) r4_2) (View.ld (iblk4 V c 3 t) r4_3) (View.ld (iblk4 V c 3 t) r4_4) := by
  have hv : ∀ (k : Fin 192) (p : Fin 128), (iblk4 V c 3 t : S192x128.Idx → EReal) (ix2 k p) = V c main_v9 (ix2 k p) :=
    fun k p => congrArg (V c main_v9) (by blk_ext [idx4_3 t])
  exact ⟨fun b s q k => congrArg (V c main_v8) (by blk_ext [idx4_0 t]), fun b s q k => congrArg (V c main_v8) (by blk_ext [idx4_1 t]),
    fun b s q k => congrArg (V c main_v8) (by blk_ext [idx4_2 t]),
    fun k p => (ld_rows 192 128 64 0 (iblk4 V c 3 t) _ k p (by omega)).trans (hv _ p), fun k p => (ld_rows 192 128 64 64 (iblk4 V c 3 t) _ k p (by omega)).trans (hv _ p),
    fun k p => (ld_rows 192 128 64 (2 * 64) (iblk4 V c 3 t) _ k p (by omega)).trans (hv _ p)⟩

/-- The array the call leaves holds the next layer's planes. -/
theorem region4 (c : Dev nD) (Z : Fin 4 → ℕ → ℤ → ℕ → EReal) (hX : IsBox 64 (V c main_v8) Z) (W : ℕ → ℕ → EReal)
    (hU : ∀ (k : Fin 192) (p : Fin 128), (V c main_v9 : S192x128.Idx → EReal) (ix2 k p) = W k p) :
    IsBox 128 ((dat4 V c).arrAt 4 cfg4.N) fun b => conv 64 W (Z b) := by
  have e : (dat4 V c).arrAt 4 cfg4.N = fun y : S4x200x500x128.Idx => conv 64 W (Z (y 0)) (y 3).val (((y 1).val : ℕ) : ℤ) (y 2).val := by
    refine (dat4 V c).arrAt_eq_of_covers 4 _ (by decide +kernel) fun t hf y => ?_
    rw [after4_4, out4_eq]
    exact (reads4 V c t).last joinn lap12n lap10n dotnw Z hX W hU _ (fun _ => rfl) y ((win4_4.blk t).view.emb y)
      (by blk_simp [idx4_4 t]) (by blk_simp [idx4_4 t]; omega) (by blk_simp [idx4_4 t]) (by blk_simp [idx4_4 t])
  intro b r q k
  exact congrFun e (ix4 b r q k)

end Cert.Cheb
-- ==== Proof.KNet.lean ====
module

public import proofs.«01_k».proof.Proof.RefNet
public import proofs.«01_k».proof.Proof.Region0
public import proofs.«01_k».proof.Proof.Region1
public import proofs.«01_k».proof.Proof.Region2
public import proofs.«01_k».proof.Proof.Region3
public import proofs.«01_k».proof.Proof.Region4
public import Idealize.ShloMosaic.Lib.StableHlo.ReadAt

@[expose] public section

set_option maxRecDepth 16384

noncomputable section

namespace Cert.Cheb

open Idealize.ShloMosaic Idealize.ShloMosaic.Tactic Cert.KernelIdeal Cert.KernelIdeal.Gen
open Idealize.ShloMosaic.TcCoe

/-! # The kernel's five calls, one after the other -/

section

variable (V : Valuation τ sig (Elt Ideal))

/-! What each stretch of host operations writes. -/

theorem host0_x (b : Fin 4) (r : Fin 200) (q : Fin 500) (k : Fin 128) :
    (StableHlo.after hostOps0 V (Proc.devRef .tc main_v0) : S4x200x500x128.Idx → EReal) (ix4 b r q k)
      = (V (Proc.devRef .tc main_arg0) : S4x100000x128.Idx → EReal) (ix3 b ⟨r.val * 500 + q.val, by omega⟩ k) := by
  after_reads_at

theorem host0_w : StableHlo.after hostOps0 V (Proc.devRef .tc main_v1) = V (Proc.devRef .tc main_arg1) := by
  after_reads_simp
  rfl

theorem host1_w : StableHlo.after hostOps1 V (Proc.devRef .tc main_v3) = V (Proc.devRef .tc main_arg2) := by
  after_reads_simp
  rfl

theorem host2_w : StableHlo.after hostOps2 V (Proc.devRef .tc main_v5) = V (Proc.devRef .tc main_arg3) := by
  after_reads_simp
  rfl

theorem host3_w : StableHlo.after hostOps3 V (Proc.devRef .tc main_v7) = V (Proc.devRef .tc main_arg4) := by
  after_reads_simp
  rfl

theorem host4_w : StableHlo.after hostOps4 V (Proc.devRef .tc main_v9) = V (Proc.devRef .tc main_arg5) := by
  after_reads_simp
  rfl

theorem host5_x (b : Fin 4) (n : Fin 100000) (k : Fin 128) :
    (StableHlo.after hostOps5 V (Proc.devRef .tc main_v11) : S4x100000x128.Idx → EReal) (ix3 b n k)
      = (V (Proc.devRef .tc main_v10) : S4x200x500x128.Idx → EReal) (ix4 b ⟨n.val / 500, by omega⟩ ⟨n.val % 500, by omega⟩ k) := by
  after_reads_at

end

/-! The planes at each boundary. -/

variable (m : (ℓ : Loc nD τ sig) → Buf (Elt Ideal) ℓ) (ρ : Dev nD → PrngReg) (c : Dev nD)

/-- An argument as launched. -/
abbrev argX : FVec Ideal (X3 128) .f32 := m ((c : Thread nD τ).loc main_arg0)
abbrev argW1 : FVec Ideal (M2 384 64) .f32 := m ((c : Thread nD τ).loc main_arg1)
abbrev argW2 : FVec Ideal (M2 192 64) .f32 := m ((c : Thread nD τ).loc main_arg2)
abbrev argW3 : FVec Ideal (M2 192 64) .f32 := m ((c : Thread nD τ).loc main_arg3)
abbrev argW4 : FVec Ideal (M2 192 64) .f32 := m ((c : Thread nD τ).loc main_arg4)
abbrev argW5 : FVec Ideal (M2 192 128) .f32 := m ((c : Thread nD τ).loc main_arg5)

theorem input_box : IsBox 128 (V1 m ρ c main_v0) (plane0 (argX m c)) := by
  intro b r q k
  refine (host0_x (W0 m ρ c) b r q k).trans ?_
  unfold plane0
  rw [dif_pos ⟨k.isLt, by omega, by omega, q.isLt⟩]
  rfl

theorem box1 : IsBox 64 (V3 m ρ c main_v2) (plane1 (argX m c) (argW1 m c)) := by
  have e : V3 m ρ c main_v2 = (dat0 (V1 m ρ) c).arrAt 4 cfg0.N := (W3_of m ρ c main_v2 (by decide)).trans (W2_arr m ρ c 4)
  rw [e]
  exact region0 (V1 m ρ) c _ (input_box m ρ c) (matF 384 64 (argW1 m c)) fun k p =>
    (congrFun (host0_w (W0 m ρ c)) (ix2 k p)).trans (matF_apply 384 64 (argW1 m c) k p)

theorem box2 : IsBox 64 (V5 m ρ c main_v4) (plane2 (argX m c) (argW1 m c) (argW2 m c)) := by
  have e : V5 m ρ c main_v4 = (dat1 (V3 m ρ) c).arrAt 4 cfg1.N := (W5_of m ρ c main_v4 (by decide)).trans (W4_arr m ρ c 4)
  rw [e]
  exact region1 (V3 m ρ) c _ (box1 m ρ c) (matF 192 64 (argW2 m c)) fun k p =>
    (congrFun ((host1_w (W2 m ρ c)).trans (W2_args m ρ c main_arg2 (by decide))) (ix2 k p)).trans (matF_apply 192 64 (argW2 m c) k p)

theorem box3 : IsBox 64 (V7 m ρ c main_v6) (plane3 (argX m c) (argW1 m c) (argW2 m c) (argW3 m c)) := by
  have e : V7 m ρ c main_v6 = (dat2 (V5 m ρ) c).arrAt 4 cfg2.N := (W7_of m ρ c main_v6 (by decide)).trans (W6_arr m ρ c 4)
  rw [e]
  exact region2 (V5 m ρ) c _ (box2 m ρ c) (matF 192 64 (argW3 m c)) fun k p =>
    (congrFun ((host2_w (W4 m ρ c)).trans (W4_args m ρ c main_arg3 (by decide))) (ix2 k p)).trans (matF_apply 192 64 (argW3 m c) k p)

theorem box4 : IsBox 64 (V9 m ρ c main_v8) (plane4 (argX m c) (argW1 m c) (argW2 m c) (argW3 m c) (argW4 m c)) := by
  have e : V9 m ρ c main_v8 = (dat3 (V7 m ρ) c).arrAt 4 cfg3.N := (W9_of m ρ c main_v8 (by decide)).trans (W8_arr m ρ c 4)
  rw [e]
  exact region3 (V7 m ρ) c _ (box3 m ρ c) (matF 192 64 (argW4 m c)) fun k p =>
    (congrFun ((host3_w (W6 m ρ c)).trans (W6_args m ρ c main_arg4 (by decide))) (ix2 k p)).trans (matF_apply 192 64 (argW4 m c) k p)

theorem box5 : IsBox 128 (W10 m ρ c (Proc.devRef .tc main_v10)) (plane5 (argX m c) (argW1 m c) (argW2 m c) (argW3 m c) (argW4 m c) (argW5 m c)) := by
  have e : W10 m ρ c (Proc.devRef .tc main_v10) = (dat4 (V9 m ρ) c).arrAt 4 cfg4.N := W10_arr m ρ c 4
  rw [e]
  exact region4 (V9 m ρ) c _ (box4 m ρ c) (matF 192 128 (argW5 m c)) fun k p =>
    (congrFun ((host4_w (W8 m ρ c)).trans (W8_args m ρ c main_arg5 (by decide))) (ix2 k p)).trans (matF_apply 192 128 (argW5 m c) k p)

/-- The result array holds the last layer's planes. -/
theorem result_kernel : IsFlat 128 (W11 m ρ c (Proc.devRef .tc main_v11))
    (plane5 (argX m c) (argW1 m c) (argW2 m c) (argW3 m c) (argW4 m c) (argW5 m c)) := by
  intro b n k
  exact (host5_x (W10 m ρ c) b n k).trans (box5 m ρ c b ⟨n.val / 500, by omega⟩ ⟨n.val % 500, by omega⟩ k)

end Cert.Cheb
-- ==== Proof.lean ====
/- The five claims of `Cert.Claim`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.KNet
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.StableHlo Cert.Cheb

/-- What the predicate's one broadcast asks of its shapes. -/
theorem preFacts : Cert.Pre_x_above_neg_inf.Facts := ⟨by decide⟩

attribute [local instance] preFacts

/-- The predicate, read: no element is the bottom. -/
theorem above_of_pre {x : FVec Ideal (X3 128) .f32} {w1 w2 w3 w4 w5 i j l}
    (h : Cert.Pre_x_above_neg_inf.fn (F := Ideal) x w1 w2 w3 w4 w5 i j l = fun _ => 1#1) (k : (X3 128).Idx) : x k ≠ ⊥ := by
  have h1 : Ideal.cmp .ogt (x k) (Ideal.ofBits .f32 0xFF800000#32) = 1 := congrFun h k
  exact (bot_le.trans_lt ((Ideal.cmp_ogt_eq_one _ _).1 h1)).ne'

/-- Two arrays that hold the same planes are equal. -/
theorem flat_unique {f : ℕ} {x y : (X3 f).Idx → EReal} {Z : Fin 4 → ℕ → ℤ → ℕ → EReal} (hx : IsFlat f x Z) (hy : IsFlat f y Z) : x = y := by
  funext j
  rw [eq_ix3 j]
  exact (hx _ _ _).trans (hy _ _ _).symm

/-- The reference's arguments end unchanged; it declares no semaphore. -/
theorem frame_reference : Cert.quiescent_ReferenceIdeal := fun m g _ =>
  (θ_run Cert.ReferenceIdeal.defs _ _).mono (fun r h => And.intro (fun c => (h c).2) (sem_eq_zero_of_no_sems (by decide) r.2))
    (Cert.ReferenceIdeal.Value.run (F := Ideal) m g)

/-- The reference's result depends on its six float arguments alone. -/
theorem reference_congr {x x' : FVec Ideal (X3 128) .f32} {w1 w1' : FVec Ideal (M2 384 64) .f32} {w2 w2' w3 w3' w4 w4' : FVec Ideal (M2 192 64) .f32}
    {w5 w5' : FVec Ideal (M2 192 128) .f32} (h0 : x = x') (h1 : w1 = w1') (h2 : w2 = w2') (h3 : w3 = w3') (h4 : w4 = w4') (h5 : w5 = w5') :
    Cert.ReferenceIdeal.Read.val_main_v231 (F := Ideal) x w1 w2 w3 w4 w5 = Cert.ReferenceIdeal.Read.val_main_v231 (F := Ideal) x' w1' w2' w3' w4' w5' := by
  rw [h0, h1, h2, h3, h4, h5]

/-- From arguments that agree and whose `x` is above the bottom everywhere, both programs end with the same result. -/
theorem algebraic : Cert.algebraic_KernelIdeal_ReferenceIdeal := by
  intro m g m' g' hpre hagree
  refine ⟨fun c => Cert.KernelIdeal.Gen.W11 m g c (Proc.devRef .tc Cert.KernelIdeal.main_v11), Cert.KernelIdeal.Gen.result_run (F := Ideal) m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, -⟩ := hagree c
  exact (Cert.ReferenceIdeal.Read.val_main_v231_eq (launchContents m' c)).trans
    ((reference_congr h0 h1 h2 h3 h4 h5).trans (flat_unique (result_flat _ _ _ _ _ _ (above_of_pre (hpre c))) (result_kernel m g c)))

theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
